-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S2x4096x256 : Shape := ⟨3, ![2, 4096, 256]⟩
abbrev S32x128x64 : Shape := ⟨3, ![32, 128, 64]⟩
abbrev S32 : Shape := ⟨1, ![32]⟩
abbrev S_ : Shape := ⟨0, ![]⟩
abbrev S2 : Shape := ⟨1, ![2]⟩
abbrev S1x4096x256 : Shape := ⟨3, ![1, 4096, 256]⟩
abbrev S4096x256 : Shape := ⟨2, ![4096, 256]⟩
abbrev S128x256 : Shape := ⟨2, ![128, 256]⟩
abbrev S128x64 : Shape := ⟨2, ![128, 64]⟩
abbrev S1x128x64 : Shape := ⟨3, ![1, 128, 64]⟩

abbrev nBuf : Space → Nat
  | .hbm => 6
  | .vmem => 4
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .bf16⟩
  | .hbm, ⟨5, _⟩ => ⟨S4096x64, .f32⟩
  | .local _ .vmem, ⟨0, _⟩ => ⟨S128x4096, .f32⟩
  | .local _ .vmem, ⟨1, _⟩ => ⟨S128x4096, .fp8e5m2⟩
  | .local _ .vmem, ⟨2, _⟩ => ⟨S2x4096x256, .f32⟩
  | .local _ .vmem, ⟨3, _⟩ => ⟨S32x128x64, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 33 70 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 32

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_5 : BitVec 32 := 0#32
  let v23 : BitVec 1 := Scalar.cmpi .eq arg0 c0_i32_5
  let v24 : BitVec 32 := Scalar.extui v23
  let c0_i32_6 : BitVec 32 := 0#32
  let v25 : BitVec 1 := Scalar.cmpi .ne v24 c0_i32_6
  v25

def k0_dev1 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_54 : BitVec 32 := 1#32
  let v119 : BitVec 32 := Scalar.muli v2 c1_i32_54
  let v120 : BitVec 32 := Scalar.addi c0_i32_55 v119
  v120.toNat
def k0_cond2 (i : grid0.Coords) : BitVec 1 :=
  let arg0 : BitVec 32 := BitVec.ofNat 32 (i 0).val
  let c0_i32_7 : BitVec 32 := 0#32
  let v26 : BitVec 1 := Scalar.cmpi .eq arg0 c0_i32_7
  let v27 : BitVec 32 := Scalar.extui v26
  let c0_i32_8 : BitVec 32 := 0#32
  let v28 : BitVec 1 := Scalar.cmpi .ne v27 c0_i32_8
  v28

def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_dev2 : Nat :=
  let c0_i32_56 : BitVec 32 := 0#32
  let c0_i32_54 : BitVec 32 := 0#32
  let c1_i32_55 : BitVec 32 := 1#32
  let v121 : BitVec 32 := Scalar.muli c0_i32_54 c1_i32_55
  let v122 : BitVec 32 := Scalar.addi c0_i32_56 v121
  v122.toNat
def k0_dev3 : Nat :=
  let c0_i32_60 : BitVec 32 := 0#32
  let c1_i32_58 : BitVec 32 := 1#32
  let c1_i32_59 : BitVec 32 := 1#32
  let v125 : BitVec 32 := Scalar.muli c1_i32_58 c1_i32_59
  let v126 : BitVec 32 := Scalar.addi c0_i32_60 v125
  v126.toNat
def k0_dev4 : Nat :=
  let c0_i32_64 : BitVec 32 := 0#32
  let c2_i32_62 : BitVec 32 := 2#32
  let c1_i32_63 : BitVec 32 := 1#32
  let v129 : BitVec 32 := Scalar.muli c2_i32_62 c1_i32_63
  let v130 : BitVec 32 := Scalar.addi c0_i32_64 v129
  v130.toNat
def k0_dev5 : Nat :=
  let c0_i32_68 : BitVec 32 := 0#32
  let c3_i32_66 : BitVec 32 := 3#32
  let c1_i32_67 : BitVec 32 := 1#32
  let v133 : BitVec 32 := Scalar.muli c3_i32_66 c1_i32_67
  let v134 : BitVec 32 := Scalar.addi c0_i32_68 v133
  v134.toNat
def k0_dev6 : Nat :=
  let c0_i32_72 : BitVec 32 := 0#32
  let c4_i32_70 : BitVec 32 := 4#32
  let c1_i32_71 : BitVec 32 := 1#32
  let v137 : BitVec 32 := Scalar.muli c4_i32_70 c1_i32_71
  let v138 : BitVec 32 := Scalar.addi c0_i32_72 v137
  v138.toNat
def k0_dev7 : Nat :=
  let c0_i32_75 : BitVec 32 := 0#32
  let c5_i32 : BitVec 32 := 5#32
  let c1_i32_74 : BitVec 32 := 1#32
  let v141 : BitVec 32 := Scalar.muli c5_i32 c1_i32_74
  let v142 : BitVec 32 := Scalar.addi c0_i32_75 v141
  v142.toNat
def k0_dev8 : Nat :=
  let c0_i32_79 : BitVec 32 := 0#32
  let c6_i32_77 : BitVec 32 := 6#32
  let c1_i32_78 : BitVec 32 := 1#32
  let v145 : BitVec 32 := Scalar.muli c6_i32_77 c1_i32_78
  let v146 : BitVec 32 := Scalar.addi c0_i32_79 v145
  v146.toNat
def k0_dev9 : Nat :=
  let c0_i32_83 : BitVec 32 := 0#32
  let c7_i32_81 : BitVec 32 := 7#32
  let c1_i32_82 : BitVec 32 := 1#32
  let v149 : BitVec 32 := Scalar.muli c7_i32_81 c1_i32_82
  let v150 : BitVec 32 := Scalar.addi c0_i32_83 v149
  v150.toNat
def k0_dev10 : Nat :=
  let c0_i32_87 : BitVec 32 := 0#32
  let c8_i32_85 : BitVec 32 := 8#32
  let c1_i32_86 : BitVec 32 := 1#32
  let v153 : BitVec 32 := Scalar.muli c8_i32_85 c1_i32_86
  let v154 : BitVec 32 := Scalar.addi c0_i32_87 v153
  v154.toNat
def k0_dev11 : Nat :=
  let c0_i32_90 : BitVec 32 := 0#32
  let c9_i32 : BitVec 32 := 9#32
  let c1_i32_89 : BitVec 32 := 1#32
  let v157 : BitVec 32 := Scalar.muli c9_i32 c1_i32_89
  let v158 : BitVec 32 := Scalar.addi c0_i32_90 v157
  v158.toNat
def k0_dev12 : Nat :=
  let c0_i32_93 : BitVec 32 := 0#32
  let c10_i32 : BitVec 32 := 10#32
  let c1_i32_92 : BitVec 32 := 1#32
  let v161 : BitVec 32 := Scalar.muli c10_i32 c1_i32_92
  let v162 : BitVec 32 := Scalar.addi c0_i32_93 v161
  v162.toNat
def k0_dev13 : Nat :=
  let c0_i32_96 : BitVec 32 := 0#32
  let c11_i32 : BitVec 32 := 11#32
  let c1_i32_95 : BitVec 32 := 1#32
  let v165 : BitVec 32 := Scalar.muli c11_i32 c1_i32_95
  let v166 : BitVec 32 := Scalar.addi c0_i32_96 v165
  v166.toNat
def k0_dev14 : Nat :=
  let c0_i32_99 : BitVec 32 := 0#32
  let c12_i32 : BitVec 32 := 12#32
  let c1_i32_98 : BitVec 32 := 1#32
  let v169 : BitVec 32 := Scalar.muli c12_i32 c1_i32_98
  let v170 : BitVec 32 := Scalar.addi c0_i32_99 v169
  v170.toNat
def k0_dev15 : Nat :=
  let c0_i32_102 : BitVec 32 := 0#32
  let c13_i32 : BitVec 32 := 13#32
  let c1_i32_101 : BitVec 32 := 1#32
  let v173 : BitVec 32 := Scalar.muli c13_i32 c1_i32_101
  let v174 : BitVec 32 := Scalar.addi c0_i32_102 v173
  v174.toNat
def k0_dev16 : Nat :=
  let c0_i32_105 : BitVec 32 := 0#32
  let c14_i32 : BitVec 32 := 14#32
  let c1_i32_104 : BitVec 32 := 1#32
  let v177 : BitVec 32 := Scalar.muli c14_i32 c1_i32_104
  let v178 : BitVec 32 := Scalar.addi c0_i32_105 v177
  v178.toNat
def k0_dev17 : Nat :=
  let c0_i32_108 : BitVec 32 := 0#32
  let c15_i32 : BitVec 32 := 15#32
  let c1_i32_107 : BitVec 32 := 1#32
  let v181 : BitVec 32 := Scalar.muli c15_i32 c1_i32_107
  let v182 : BitVec 32 := Scalar.addi c0_i32_108 v181
  v182.toNat
def k0_dev18 : Nat :=
  let c0_i32_111 : BitVec 32 := 0#32
  let c16_i32 : BitVec 32 := 16#32
  let c1_i32_110 : BitVec 32 := 1#32
  let v185 : BitVec 32 := Scalar.muli c16_i32 c1_i32_110
  let v186 : BitVec 32 := Scalar.addi c0_i32_111 v185
  v186.toNat
def k0_dev19 : Nat :=
  let c0_i32_114 : BitVec 32 := 0#32
  let c17_i32 : BitVec 32 := 17#32
  let c1_i32_113 : BitVec 32 := 1#32
  let v189 : BitVec 32 := Scalar.muli c17_i32 c1_i32_113
  let v190 : BitVec 32 := Scalar.addi c0_i32_114 v189
  v190.toNat
def k0_dev20 : Nat :=
  let c0_i32_117 : BitVec 32 := 0#32
  let c18_i32 : BitVec 32 := 18#32
  let c1_i32_116 : BitVec 32 := 1#32
  let v193 : BitVec 32 := Scalar.muli c18_i32 c1_i32_116
  let v194 : BitVec 32 := Scalar.addi c0_i32_117 v193
  v194.toNat
def k0_dev21 : Nat :=
  let c0_i32_120 : BitVec 32 := 0#32
  let c19_i32 : BitVec 32 := 19#32
  let c1_i32_119 : BitVec 32 := 1#32
  let v197 : BitVec 32 := Scalar.muli c19_i32 c1_i32_119
  let v198 : BitVec 32 := Scalar.addi c0_i32_120 v197
  v198.toNat
def k0_dev22 : Nat :=
  let c0_i32_123 : BitVec 32 := 0#32
  let c20_i32 : BitVec 32 := 20#32
  let c1_i32_122 : BitVec 32 := 1#32
  let v201 : BitVec 32 := Scalar.muli c20_i32 c1_i32_122
  let v202 : BitVec 32 := Scalar.addi c0_i32_123 v201
  v202.toNat
def k0_dev23 : Nat :=
  let c0_i32_126 : BitVec 32 := 0#32
  let c21_i32 : BitVec 32 := 21#32
  let c1_i32_125 : BitVec 32 := 1#32
  let v205 : BitVec 32 := Scalar.muli c21_i32 c1_i32_125
  let v206 : BitVec 32 := Scalar.addi c0_i32_126 v205
  v206.toNat
def k0_dev24 : Nat :=
  let c0_i32_129 : BitVec 32 := 0#32
  let c22_i32 : BitVec 32 := 22#32
  let c1_i32_128 : BitVec 32 := 1#32
  let v209 : BitVec 32 := Scalar.muli c22_i32 c1_i32_128
  let v210 : BitVec 32 := Scalar.addi c0_i32_129 v209
  v210.toNat
def k0_dev25 : Nat :=
  let c0_i32_132 : BitVec 32 := 0#32
  let c23_i32 : BitVec 32 := 23#32
  let c1_i32_131 : BitVec 32 := 1#32
  let v213 : BitVec 32 := Scalar.muli c23_i32 c1_i32_131
  let v214 : BitVec 32 := Scalar.addi c0_i32_132 v213
  v214.toNat
def k0_dev26 : Nat :=
  let c0_i32_135 : BitVec 32 := 0#32
  let c24_i32 : BitVec 32 := 24#32
  let c1_i32_134 : BitVec 32 := 1#32
  let v217 : BitVec 32 := Scalar.muli c24_i32 c1_i32_134
  let v218 : BitVec 32 := Scalar.addi c0_i32_135 v217
  v218.toNat
def k0_dev27 : Nat :=
  let c0_i32_138 : BitVec 32 := 0#32
  let c25_i32 : BitVec 32 := 25#32
  let c1_i32_137 : BitVec 32 := 1#32
  let v221 : BitVec 32 := Scalar.muli c25_i32 c1_i32_137
  let v222 : BitVec 32 := Scalar.addi c0_i32_138 v221
  v222.toNat
def k0_dev28 : Nat :=
  let c0_i32_141 : BitVec 32 := 0#32
  let c26_i32 : BitVec 32 := 26#32
  let c1_i32_140 : BitVec 32 := 1#32
  let v225 : BitVec 32 := Scalar.muli c26_i32 c1_i32_140
  let v226 : BitVec 32 := Scalar.addi c0_i32_141 v225
  v226.toNat
def k0_dev29 : Nat :=
  let c0_i32_144 : BitVec 32 := 0#32
  let c27_i32 : BitVec 32 := 27#32
  let c1_i32_143 : BitVec 32 := 1#32
  let v229 : BitVec 32 := Scalar.muli c27_i32 c1_i32_143
  let v230 : BitVec 32 := Scalar.addi c0_i32_144 v229
  v230.toNat
def k0_dev30 : Nat :=
  let c0_i32_147 : BitVec 32 := 0#32
  let c28_i32 : BitVec 32 := 28#32
  let c1_i32_146 : BitVec 32 := 1#32
  let v233 : BitVec 32 := Scalar.muli c28_i32 c1_i32_146
  let v234 : BitVec 32 := Scalar.addi c0_i32_147 v233
  v234.toNat
def k0_dev31 : Nat :=
  let c0_i32_150 : BitVec 32 := 0#32
  let c29_i32 : BitVec 32 := 29#32
  let c1_i32_149 : BitVec 32 := 1#32
  let v237 : BitVec 32 := Scalar.muli c29_i32 c1_i32_149
  let v238 : BitVec 32 := Scalar.addi c0_i32_150 v237
  v238.toNat
def k0_dev32 : Nat :=
  let c0_i32_153 : BitVec 32 := 0#32
  let c30_i32 : BitVec 32 := 30#32
  let c1_i32_152 : BitVec 32 := 1#32
  let v241 : BitVec 32 := Scalar.muli c30_i32 c1_i32_152
  let v242 : BitVec 32 := Scalar.addi c0_i32_153 v241
  v242.toNat
def k0_dev33 : Nat :=
  let c0_i32_156 : BitVec 32 := 0#32
  let c31_i32 : BitVec 32 := 31#32
  let c1_i32_155 : BitVec 32 := 1#32
  let v245 : BitVec 32 := Scalar.muli c31_i32 c1_i32_155
  let v246 : BitVec 32 := Scalar.addi c0_i32_156 v245
  v246.toNat
def k0_off2 (i : grid0.Coords) (d0 : Dev nD) : Fin 2 → Nat :=
  let c0_i32_162 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c256_i32_157 : BitVec 32 := 256#32
  let v247 : BitVec 32 := Scalar.muli v21 c256_i32_157
  ![0, v247.toNat]
def k0_off3 (i : grid0.Coords) (d0 : Dev nD) : Fin 2 → Nat :=
  let c0_i32_170 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c1_i32_163 : BitVec 32 := 1#32
  let v253 : BitVec 32 := Scalar.addi v21 c1_i32_163
  let c8_i32_164 : BitVec 32 := 8#32
  let v254 : BitVec 32 := Scalar.remsi v253 c8_i32_164
  let c256_i32_165 : BitVec 32 := 256#32
  let v255 : BitVec 32 := Scalar.muli v254 c256_i32_165
  ![0, v255.toNat]
def k0_cond3 (i : grid0.Coords) : BitVec 1 :=
  let arg0 : BitVec 32 := BitVec.ofNat 32 (i 0).val
  let c1_i32_9 : BitVec 32 := 1#32
  let v29 : BitVec 1 := Scalar.cmpi .sge arg0 c1_i32_9
  let c6_i32 : BitVec 32 := 6#32
  let v30 : BitVec 1 := Scalar.cmpi .sle arg0 c6_i32
  let v31 : BitVec 1 := Scalar.andi v29 v30
  let v32 : BitVec 32 := Scalar.extui v31
  let c0_i32_10 : BitVec 32 := 0#32
  let v33 : BitVec 1 := Scalar.cmpi .ne v32 c0_i32_10
  v33

def k0_off4 (i : grid0.Coords) : Fin 1 → Nat :=
  let arg0 : BitVec 32 := BitVec.ofNat 32 (i 0).val
  let c1_i32_55 : BitVec 32 := 1#32
  let v121 : BitVec 32 := Scalar.addi arg0 c1_i32_55
  let c2_i32_56 : BitVec 32 := 2#32
  let v122 : BitVec 32 := Scalar.remsi v121 c2_i32_56
  ![v122.toNat]
def k0_off5 (i : grid0.Coords) : Fin 3 → Nat :=
  let arg0 : BitVec 32 := BitVec.ofNat 32 (i 0).val
  let c1_i32_55 : BitVec 32 := 1#32
  let v121 : BitVec 32 := Scalar.addi arg0 c1_i32_55
  let c2_i32_56 : BitVec 32 := 2#32
  let v122 : BitVec 32 := Scalar.remsi v121 c2_i32_56
  let c0_i32_58 : BitVec 32 := 0#32
  let c0_i32_59 : BitVec 32 := 0#32
  ![v122.toNat, 0, 0]
def k0_off6 (i : grid0.Coords) (d0 : Dev nD) : Fin 2 → Nat :=
  let c0_i32_60 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c1_i32_53 : BitVec 32 := 1#32
  let v119 : BitVec 32 := Scalar.addi v21 c1_i32_53
  let c8_i32_54 : BitVec 32 := 8#32
  let v120 : BitVec 32 := Scalar.remsi v119 c8_i32_54
  let c256_i32_57 : BitVec 32 := 256#32
  let v123 : BitVec 32 := Scalar.muli v120 c256_i32_57
  ![0, v123.toNat]
def k0_off7 (i : grid0.Coords) : Fin 1 → Nat :=
  let arg0 : BitVec 32 := BitVec.ofNat 32 (i 0).val
  let c2_i32 : BitVec 32 := 2#32
  let v34 : BitVec 32 := Scalar.remsi arg0 c2_i32
  ![v34.toNat]
def k0_off8 (i : grid0.Coords) : Fin 3 → Nat :=
  let arg0 : BitVec 32 := BitVec.ofNat 32 (i 0).val
  let c2_i32 : BitVec 32 := 2#32
  let v34 : BitVec 32 := Scalar.remsi arg0 c2_i32
  let c0_i32_11 : BitVec 32 := 0#32
  let c0_i32_12 : BitVec 32 := 0#32
  ![v34.toNat, 0, 0]
def k0_off9 (i : grid0.Coords) (d0 : Dev nD) : Fin 2 → Nat :=
  let c0_i32_13 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c256_i32 : BitVec 32 := 256#32
  let v35 : BitVec 32 := Scalar.muli v21 c256_i32
  ![0, v35.toNat]
def k0_off10 (i : grid0.Coords) : Fin 3 → Nat :=
  let arg0 : BitVec 32 := BitVec.ofNat 32 (i 0).val
  let c2_i32_15 : BitVec 32 := 2#32
  let v42 : BitVec 32 := Scalar.remsi arg0 c2_i32_15
  let v43 : Index := Scalar.indexCast v42
  let c0_16 : Index := 0#32
  let c0_17 : Index := 0#32
  ![v43.toNat, 0, 0]
def k0_off11 (i : grid0.Coords) (d0 : Dev nD) (c0_i32_22 : BitVec 32) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_21 : BitVec 32 := 4#32
  let v57 : BitVec 32 := Scalar.muli v21 c4_i32_21
  let v58 : BitVec 32 := Scalar.addi v57 c0_i32_22
  let v59 : Index := Scalar.indexCast v58
  let c0_23 : Index := 0#32
  let c0_24 : Index := 0#32
  ![v59.toNat, 0, 0]
def k0_cond4 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let v86 : BitVec 1 := Scalar.cmpi .eq v85 v2
  let v87 : BitVec 32 := Scalar.extui v86
  let c0_i32_38 : BitVec 32 := 0#32
  let v88 : BitVec 1 := Scalar.cmpi .ne v87 c0_i32_38
  v88

def k0_off12 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let c128_i32 : BitVec 32 := 128#32
  let v119 : BitVec 32 := Scalar.muli v85 c128_i32
  let c0_i32_53 : BitVec 32 := 0#32
  ![v119.toNat, 0]
def k0_off13 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let c0_i32_54 : BitVec 32 := 0#32
  let c0_i32_55 : BitVec 32 := 0#32
  ![v85.toNat, 0, 0]
def k0_cond5 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let v89 : BitVec 1 := Scalar.cmpi .ne v85 v2
  let v90 : BitVec 32 := Scalar.extui v89
  let c0_i32_39 : BitVec 32 := 0#32
  let v91 : BitVec 1 := Scalar.cmpi .ne v90 c0_i32_39
  v91

def k0_off14 (i : grid0.Coords) (d0 : Dev nD) : Fin 1 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  ![v85.toNat]
def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v121 : BitVec 32 := Scalar.muli v2 c128_i32
  let c0_i32_56 : BitVec 32 := 0#32
  ![v121.toNat, 0]
def k0_off17 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let c0_i32_57 : BitVec 32 := 0#32
  let c0_i32_58 : BitVec 32 := 0#32
  ![v85.toNat, 0, 0]
def k0_dev34 (i : grid0.Coords) (d0 : Dev nD) : Nat :=
  let c0_i32_55 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_36 : BitVec 32 := 4#32
  let v84 : BitVec 32 := Scalar.muli v21 c4_i32_36
  let c0_i32_37 : BitVec 32 := 0#32
  let v85 : BitVec 32 := Scalar.addi v84 c0_i32_37
  let c1_i32_54 : BitVec 32 := 1#32
  let v122 : BitVec 32 := Scalar.muli v85 c1_i32_54
  let v123 : BitVec 32 := Scalar.addi c0_i32_55 v122
  v123.toNat
def k0_cond6 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let v94 : BitVec 1 := Scalar.cmpi .eq v93 v2
  let v95 : BitVec 32 := Scalar.extui v94
  let c0_i32_42 : BitVec 32 := 0#32
  let v96 : BitVec 1 := Scalar.cmpi .ne v95 c0_i32_42
  v96

def k0_off18 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let c128_i32 : BitVec 32 := 128#32
  let v119 : BitVec 32 := Scalar.muli v93 c128_i32
  let c0_i32_53 : BitVec 32 := 0#32
  ![v119.toNat, 0]
def k0_off19 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let c0_i32_54 : BitVec 32 := 0#32
  let c0_i32_55 : BitVec 32 := 0#32
  ![v93.toNat, 0, 0]
def k0_cond7 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let v97 : BitVec 1 := Scalar.cmpi .ne v93 v2
  let v98 : BitVec 32 := Scalar.extui v97
  let c0_i32_43 : BitVec 32 := 0#32
  let v99 : BitVec 1 := Scalar.cmpi .ne v98 c0_i32_43
  v99

def k0_off20 (i : grid0.Coords) (d0 : Dev nD) : Fin 1 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  ![v93.toNat]
def k0_off21 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v121 : BitVec 32 := Scalar.muli v2 c128_i32
  let c0_i32_56 : BitVec 32 := 0#32
  ![v121.toNat, 0]
def k0_off23 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let c0_i32_57 : BitVec 32 := 0#32
  let c0_i32_58 : BitVec 32 := 0#32
  ![v93.toNat, 0, 0]
def k0_dev35 (i : grid0.Coords) (d0 : Dev nD) : Nat :=
  let c0_i32_55 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_40 : BitVec 32 := 4#32
  let v92 : BitVec 32 := Scalar.muli v21 c4_i32_40
  let c1_i32_41 : BitVec 32 := 1#32
  let v93 : BitVec 32 := Scalar.addi v92 c1_i32_41
  let c1_i32_54 : BitVec 32 := 1#32
  let v122 : BitVec 32 := Scalar.muli v93 c1_i32_54
  let v123 : BitVec 32 := Scalar.addi c0_i32_55 v122
  v123.toNat
def k0_cond8 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let v102 : BitVec 1 := Scalar.cmpi .eq v101 v2
  let v103 : BitVec 32 := Scalar.extui v102
  let c0_i32_46 : BitVec 32 := 0#32
  let v104 : BitVec 1 := Scalar.cmpi .ne v103 c0_i32_46
  v104

def k0_off24 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let c128_i32 : BitVec 32 := 128#32
  let v119 : BitVec 32 := Scalar.muli v101 c128_i32
  let c0_i32_53 : BitVec 32 := 0#32
  ![v119.toNat, 0]
def k0_off25 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let c0_i32_54 : BitVec 32 := 0#32
  let c0_i32_55 : BitVec 32 := 0#32
  ![v101.toNat, 0, 0]
def k0_cond9 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let v105 : BitVec 1 := Scalar.cmpi .ne v101 v2
  let v106 : BitVec 32 := Scalar.extui v105
  let c0_i32_47 : BitVec 32 := 0#32
  let v107 : BitVec 1 := Scalar.cmpi .ne v106 c0_i32_47
  v107

def k0_off26 (i : grid0.Coords) (d0 : Dev nD) : Fin 1 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  ![v101.toNat]
def k0_off27 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v121 : BitVec 32 := Scalar.muli v2 c128_i32
  let c0_i32_56 : BitVec 32 := 0#32
  ![v121.toNat, 0]
def k0_off29 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let c0_i32_57 : BitVec 32 := 0#32
  let c0_i32_58 : BitVec 32 := 0#32
  ![v101.toNat, 0, 0]
def k0_dev36 (i : grid0.Coords) (d0 : Dev nD) : Nat :=
  let c0_i32_55 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_44 : BitVec 32 := 4#32
  let v100 : BitVec 32 := Scalar.muli v21 c4_i32_44
  let c2_i32_45 : BitVec 32 := 2#32
  let v101 : BitVec 32 := Scalar.addi v100 c2_i32_45
  let c1_i32_54 : BitVec 32 := 1#32
  let v122 : BitVec 32 := Scalar.muli v101 c1_i32_54
  let v123 : BitVec 32 := Scalar.addi c0_i32_55 v122
  v123.toNat
def k0_cond10 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let v110 : BitVec 1 := Scalar.cmpi .eq v109 v2
  let v111 : BitVec 32 := Scalar.extui v110
  let c0_i32_50 : BitVec 32 := 0#32
  let v112 : BitVec 1 := Scalar.cmpi .ne v111 c0_i32_50
  v112

def k0_off30 (i : grid0.Coords) (d0 : Dev nD) : Fin 2 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let c128_i32 : BitVec 32 := 128#32
  let v119 : BitVec 32 := Scalar.muli v109 c128_i32
  let c0_i32_53 : BitVec 32 := 0#32
  ![v119.toNat, 0]
def k0_off31 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let c0_i32_54 : BitVec 32 := 0#32
  let c0_i32_55 : BitVec 32 := 0#32
  ![v109.toNat, 0, 0]
def k0_cond11 (i : grid0.Coords) (d0 : Dev nD) : BitVec 1 :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let v113 : BitVec 1 := Scalar.cmpi .ne v109 v2
  let v114 : BitVec 32 := Scalar.extui v113
  let c0_i32_51 : BitVec 32 := 0#32
  let v115 : BitVec 1 := Scalar.cmpi .ne v114 c0_i32_51
  v115

def k0_off32 (i : grid0.Coords) (d0 : Dev nD) : Fin 1 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  ![v109.toNat]
def k0_off33 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v121 : BitVec 32 := Scalar.muli v2 c128_i32
  let c0_i32_56 : BitVec 32 := 0#32
  ![v121.toNat, 0]
def k0_off35 (i : grid0.Coords) (d0 : Dev nD) : Fin 3 → Nat :=
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let c0_i32_57 : BitVec 32 := 0#32
  let c0_i32_58 : BitVec 32 := 0#32
  ![v109.toNat, 0, 0]
def k0_dev37 (i : grid0.Coords) (d0 : Dev nD) : Nat :=
  let c0_i32_55 : BitVec 32 := 0#32
  let arg0 : BitVec 32 := BitVec.ofNat 32 (i 0).val
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v20 : BitVec 32 := Scalar.addi arg0 v19
  let c8_i32 : BitVec 32 := 8#32
  let v21 : BitVec 32 := Scalar.remsi v20 c8_i32
  let c4_i32_48 : BitVec 32 := 4#32
  let v108 : BitVec 32 := Scalar.muli v21 c4_i32_48
  let c3_i32_49 : BitVec 32 := 3#32
  let v109 : BitVec 32 := Scalar.addi v108 c3_i32_49
  let c1_i32_54 : BitVec 32 := 1#32
  let v122 : BitVec 32 := Scalar.muli v109 c1_i32_54
  let v123 : BitVec 32 := Scalar.addi c0_i32_55 v122
  v123.toNat
def k0_cond12 (i : grid0.Coords) : BitVec 1 :=
  let arg0 : BitVec 32 := BitVec.ofNat 32 (i 0).val
  let c7_i32 : BitVec 32 := 7#32
  let v116 : BitVec 1 := Scalar.cmpi .eq arg0 c7_i32
  let v117 : BitVec 32 := Scalar.extui v116
  let c0_i32_52 : BitVec 32 := 0#32
  let v118 : BitVec 1 := Scalar.cmpi .ne v117 c0_i32_52
  v118

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v121 : BitVec 32 := Scalar.muli v2 c128_i32
  let c0_i32_54 : BitVec 32 := 0#32
  ![v121.toNat, 0]
def k0_off38 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_55 : BitVec 32 := 0#32
  let c0_i32_56 : BitVec 32 := 0#32
  ![v2.toNat, 0, 0]
def k0_off39 (d0 : Dev nD) (c1_i32_57 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v125 : BitVec 32 := Scalar.addi v2 c1_i32_57
  let c32_i32_58 : BitVec 32 := 32#32
  let v126 : BitVec 32 := Scalar.remsi v125 c32_i32_58
  ![v126.toNat]
def k0_off40 (d0 : Dev nD) (c1_i32_57 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v125 : BitVec 32 := Scalar.addi v2 c1_i32_57
  let c32_i32_58 : BitVec 32 := 32#32
  let v126 : BitVec 32 := Scalar.remsi v125 c32_i32_58
  let c128_i32_59 : BitVec 32 := 128#32
  let v127 : BitVec 32 := Scalar.muli v126 c128_i32_59
  let c0_i32_63 : BitVec 32 := 0#32
  ![v127.toNat, 0]
def k0_off41 (d0 : Dev nD) (c1_i32_57 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v125 : BitVec 32 := Scalar.addi v2 c1_i32_57
  let c32_i32_58 : BitVec 32 := 32#32
  let v126 : BitVec 32 := Scalar.remsi v125 c32_i32_58
  let c0_i32_68 : BitVec 32 := 0#32
  let c0_i32_69 : BitVec 32 := 0#32
  ![v126.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Forms.lean ====
module

public import proofs.«01_k».proof.Proof.Gen.KernelIdeal.Skeleton
public import proofs.«01_k».proof.Proof.Gen.KernelIdeal.Launch

@[expose] public section

noncomputable section

namespace Cert.K

open Cert.KernelIdeal Cert.KernelIdeal.Gen
open Idealize.ShloMosaic

/-! ## Who is sent what, when

At grid point `g` device `c` works on the panel `(g + c/4) mod 8` of the weights: 256 columns, four slabs of
64 columns, one for each of the four devices `4p .. 4p+3`. -/

set_option backward.proofsInPublic true in
/-- The panel device `c` works on at grid point `g`. -/
def pan (c : Dev nD) (g : ℕ) : Fin 8 := ⟨(g + c.val / 4) % 8, Nat.mod_lt _ (by decide)⟩

set_option backward.proofsInPublic true in
/-- The device `n` counted round the mesh. -/
def dv (n : ℕ) : Dev nD := ⟨n % 32, Nat.mod_lt _ (by decide)⟩

set_option backward.proofsInPublic true in
/-- The `n`-th device that device `c` serves, in program order. -/
def tgt (c : Dev nD) (n : ℕ) : Dev nD := ⟨4 * ((n / 4 + c.val / 4) % 8) + n % 4, by
  have h1 : (n / 4 + c.val / 4) % 8 < 8 := Nat.mod_lt _ (by decide)
  have h2 : n % 4 < 4 := Nat.mod_lt _ (by decide)
  show _ < 32
  omega⟩

/-! ## The printed offsets and conditions in closed form -/

/-- The start-up branch runs at grid point 0 only. -/
theorem cond1_eq : ∀ i : grid0.Coords, k0_cond1 i = if (i 0).val = 0 then 1#1 else 0#1 := by decide +kernel
/-- The ready-signal branch runs at grid point 0 only. -/
theorem cond2_eq : ∀ i : grid0.Coords, k0_cond2 i = if (i 0).val = 0 then 1#1 else 0#1 := by decide +kernel
/-- The next panel is fetched at grid points 1 to 6. -/
theorem cond3_eq : ∀ i : grid0.Coords, k0_cond3 i = if 1 ≤ (i 0).val ∧ (i 0).val ≤ 6 then 1#1 else 0#1 := by decide +kernel
/-- The last waits run at grid point 7 only. -/
theorem cond12_eq : ∀ i : grid0.Coords, k0_cond12 i = if (i 0).val = 7 then 1#1 else 0#1 := by decide +kernel
/-- The first slab of a grid point is copied locally exactly if it is the device's own. -/
theorem cond4_eq : ∀ (i : grid0.Coords) (d : Dev nD), k0_cond4 i d = if tgt d (4 * (i 0).val) = d then 1#1 else 0#1 := by decide +kernel
/-- The first slab of a grid point is sent away exactly if it is not the device's own. -/
theorem cond5_eq : ∀ (i : grid0.Coords) (d : Dev nD), k0_cond5 i d = if tgt d (4 * (i 0).val) = d then 0#1 else 1#1 := by decide +kernel
/-- The second slab of a grid point is copied locally exactly if it is the device's own. -/
theorem cond6_eq : ∀ (i : grid0.Coords) (d : Dev nD), k0_cond6 i d = if tgt d (4 * (i 0).val + 1) = d then 1#1 else 0#1 := by decide +kernel
/-- The second slab of a grid point is sent away exactly if it is not the device's own. -/
theorem cond7_eq : ∀ (i : grid0.Coords) (d : Dev nD), k0_cond7 i d = if tgt d (4 * (i 0).val + 1) = d then 0#1 else 1#1 := by decide +kernel
/-- The third slab of a grid point is copied locally exactly if it is the device's own. -/
theorem cond8_eq : ∀ (i : grid0.Coords) (d : Dev nD), k0_cond8 i d = if tgt d (4 * (i 0).val + 2) = d then 1#1 else 0#1 := by decide +kernel
/-- The third slab of a grid point is sent away exactly if it is not the device's own. -/
theorem cond9_eq : ∀ (i : grid0.Coords) (d : Dev nD), k0_cond9 i d = if tgt d (4 * (i 0).val + 2) = d then 0#1 else 1#1 := by decide +kernel
/-- The fourth slab of a grid point is copied locally exactly if it is the device's own. -/
theorem cond10_eq : ∀ (i : grid0.Coords) (d : Dev nD), k0_cond10 i d = if tgt d (4 * (i 0).val + 3) = d then 1#1 else 0#1 := by decide +kernel
/-- The fourth slab of a grid point is sent away exactly if it is not the device's own. -/
theorem cond11_eq : ∀ (i : grid0.Coords) (d : Dev nD), k0_cond11 i d = if tgt d (4 * (i 0).val + 3) = d then 0#1 else 1#1 := by decide +kernel

/-- The first fetch reads the columns of the panel of grid point 0. -/
theorem off2_eq : ∀ (i : grid0.Coords) (d : Dev nD), (i 0).val = 0 → k0_off2 i d = ![0, 256 * (pan d 0).val] := by decide +kernel
/-- The second fetch reads the columns of the panel of grid point 1. -/
theorem off3_eq : ∀ (i : grid0.Coords) (d : Dev nD), (i 0).val = 0 → k0_off3 i d = ![0, 256 * (pan d 1).val] := by decide +kernel
/-- A later fetch reads the columns of the next grid point's panel. -/
theorem off6_eq : ∀ (i : grid0.Coords) (d : Dev nD), k0_off6 i d = ![0, 256 * (pan d ((i 0).val + 1)).val] := by decide +kernel
/-- The panel waited for is the grid point's own. -/
theorem off9_eq : ∀ (i : grid0.Coords) (d : Dev nD), k0_off9 i d = ![0, 256 * (pan d (i 0).val).val] := by decide +kernel
/-- The first result of a grid point is stored in the slab of the device it is meant for. -/
theorem off11_0 : ∀ (i : grid0.Coords) (d : Dev nD), k0_off11 i d 0#32 = ![(tgt d (4 * (i 0).val)).val, 0, 0] := by decide +kernel
/-- The second result of a grid point is stored in the slab of the device it is meant for. -/
theorem off11_1 : ∀ (i : grid0.Coords) (d : Dev nD), k0_off11 i d 1#32 = ![(tgt d (4 * (i 0).val + 1)).val, 0, 0] := by decide +kernel
/-- The third result of a grid point is stored in the slab of the device it is meant for. -/
theorem off11_2 : ∀ (i : grid0.Coords) (d : Dev nD), k0_off11 i d 2#32 = ![(tgt d (4 * (i 0).val + 2)).val, 0, 0] := by decide +kernel
/-- The fourth result of a grid point is stored in the slab of the device it is meant for. -/
theorem off11_3 : ∀ (i : grid0.Coords) (d : Dev nD), k0_off11 i d 3#32 = ![(tgt d (4 * (i 0).val + 3)).val, 0, 0] := by decide +kernel

/-- The local copy of the first slab writes the rows of its target. -/
theorem off12_eq : ∀ (i : grid0.Coords) (d : Dev nD), k0_off12 i d = ![128 * (tgt d (4 * (i 0).val)).val, 0] := by decide +kernel
/-- The local copy of the first slab reads the slab of its target. -/
theorem off13_eq : ∀ (i : grid0.Coords) (d : Dev nD), k0_off13 i d = ![(tgt d (4 * (i 0).val)).val, 0, 0] := by decide +kernel
/-- The first sending uses the semaphores numbered by its target. -/
theorem off14_eq : ∀ (i : grid0.Coords) (d : Dev nD), k0_off14 i d = ![(tgt d (4 * (i 0).val)).val] := by decide +kernel
/-- The first sending reads the slab of its target. -/
theorem off17_eq : ∀ (i : grid0.Coords) (d : Dev nD), k0_off17 i d = ![(tgt d (4 * (i 0).val)).val, 0, 0] := by decide +kernel
/-- The first sending goes to its target. -/
theorem dev34_eq : ∀ (i : grid0.Coords) (d : Dev nD), k0_dev34 i d = (tgt d (4 * (i 0).val)).val := by decide +kernel
/-- The local copy of the second slab writes the rows of its target. -/
theorem off18_eq : ∀ (i : grid0.Coords) (d : Dev nD), k0_off18 i d = ![128 * (tgt d (4 * (i 0).val + 1)).val, 0] := by decide +kernel
/-- The local copy of the second slab reads the slab of its target. -/
theorem off19_eq : ∀ (i : grid0.Coords) (d : Dev nD), k0_off19 i d = ![(tgt d (4 * (i 0).val + 1)).val, 0, 0] := by decide +kernel
/-- The second sending uses the semaphores numbered by its target. -/
theorem off20_eq : ∀ (i : grid0.Coords) (d : Dev nD), k0_off20 i d = ![(tgt d (4 * (i 0).val + 1)).val] := by decide +kernel
/-- The second sending reads the slab of its target. -/
theorem off23_eq : ∀ (i : grid0.Coords) (d : Dev nD), k0_off23 i d = ![(tgt d (4 * (i 0).val + 1)).val, 0, 0] := by decide +kernel
/-- The second sending goes to its target. -/
theorem dev35_eq : ∀ (i : grid0.Coords) (d : Dev nD), k0_dev35 i d = (tgt d (4 * (i 0).val + 1)).val := by decide +kernel
/-- The local copy of the third slab writes the rows of its target. -/
theorem off24_eq : ∀ (i : grid0.Coords) (d : Dev nD), k0_off24 i d = ![128 * (tgt d (4 * (i 0).val + 2)).val, 0] := by decide +kernel
/-- The local copy of the third slab reads the slab of its target. -/
theorem off25_eq : ∀ (i : grid0.Coords) (d : Dev nD), k0_off25 i d = ![(tgt d (4 * (i 0).val + 2)).val, 0, 0] := by decide +kernel
/-- The third sending uses the semaphores numbered by its target. -/
theorem off26_eq : ∀ (i : grid0.Coords) (d : Dev nD), k0_off26 i d = ![(tgt d (4 * (i 0).val + 2)).val] := by decide +kernel
/-- The third sending reads the slab of its target. -/
theorem off29_eq : ∀ (i : grid0.Coords) (d : Dev nD), k0_off29 i d = ![(tgt d (4 * (i 0).val + 2)).val, 0, 0] := by decide +kernel
/-- The third sending goes to its target. -/
theorem dev36_eq : ∀ (i : grid0.Coords) (d : Dev nD), k0_dev36 i d = (tgt d (4 * (i 0).val + 2)).val := by decide +kernel
/-- The local copy of the fourth slab writes the rows of its target. -/
theorem off30_eq : ∀ (i : grid0.Coords) (d : Dev nD), k0_off30 i d = ![128 * (tgt d (4 * (i 0).val + 3)).val, 0] := by decide +kernel
/-- The local copy of the fourth slab reads the slab of its target. -/
theorem off31_eq : ∀ (i : grid0.Coords) (d : Dev nD), k0_off31 i d = ![(tgt d (4 * (i 0).val + 3)).val, 0, 0] := by decide +kernel
/-- The fourth sending uses the semaphores numbered by its target. -/
theorem off32_eq : ∀ (i : grid0.Coords) (d : Dev nD), k0_off32 i d = ![(tgt d (4 * (i 0).val + 3)).val] := by decide +kernel
/-- The fourth sending reads the slab of its target. -/
theorem off35_eq : ∀ (i : grid0.Coords) (d : Dev nD), k0_off35 i d = ![(tgt d (4 * (i 0).val + 3)).val, 0, 0] := by decide +kernel
/-- The fourth sending goes to its target. -/
theorem dev37_eq : ∀ (i : grid0.Coords) (d : Dev nD), k0_dev37 i d = (tgt d (4 * (i 0).val + 3)).val := by decide +kernel

end Cert.K

end
-- ==== Proof.Sched.lean ====
module

public import proofs.«01_k».proof.Proof.Forms
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the kernel's rounds, the local transfers' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
/-- The kernel's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local transfers' counters. -/
abbrev EC : UEmb Counters (MT nD τ sig Unit (Elt F) ℕ UU ℕ) := countersEmb

variable (m : (ℓ : Loc nD τ sig) → Buf (Elt F) ℓ) (ρ : Dev nD → PrngReg)

/-! ## The buffers' parts -/

/-- A device's 128 rows lie inside the result. -/
theorem inb_row (s : Dev nD) : ∀ a, (![128 * s.val, 0] : Fin 2 → ℕ) a + S128x64.size a ≤ S4096x64.size a := by
  have : s.val < 32 := s.isLt; intro a; fin_cases a <;> simp [S128x64, S4096x64] <;> omega
/-- A device's slab lies inside the slab buffer. -/
theorem inb_slab (d : Dev nD) : ∀ a, (![d.val, 0, 0] : Fin 3 → ℕ) a + S1x128x64.size a ≤ S32x128x64.size a := by
  have : d.val < 32 := d.isLt; intro a; fin_cases a <;> simp [S1x128x64, S32x128x64] <;> omega
/-- A slot lies inside the weights buffer. -/
theorem inb_slot (l : Fin 2) : ∀ a, (![l.val, 0, 0] : Fin 3 → ℕ) a + S1x4096x256.size a ≤ S2x4096x256.size a := by
  have := l.isLt; intro a; fin_cases a <;> simp [S1x4096x256, S2x4096x256] <;> omega
/-- A panel's columns lie inside the weights. -/
theorem inb_col (p : Fin 8) : ∀ a, (![0, 256 * p.val] : Fin 2 → ℕ) a + S4096x256.size a ≤ S4096x2048.size a := by
  have := p.isLt; intro a; fin_cases a <;> simp [S4096x256, S4096x2048] <;> omega
/-- A device's semaphore lies inside an array of 32. -/
theorem inb_s32 (d : Dev nD) : ∀ a, (![d.val] : Fin 1 → ℕ) a + S1.size a ≤ S32.size a := by
  have : d.val < 32 := d.isLt; intro a; fin_cases a; simp [S1, S32]; omega
/-- A slot's semaphore lies inside the array of two. -/
theorem inb_s2 (l : Fin 2) : ∀ a, (![l.val] : Fin 1 → ℕ) a + S1.size a ≤ S2.size a := by
  have := l.isLt; intro a; fin_cases a; simp [S1, S2]; omega

abbrev outM : Memref sig .tc .hbm S4096x64 .bf16 := Memref.whole main_v1
abbrev wM : Memref sig .tc .hbm S4096x2048 .f32 := Memref.whole main_arg1
abbrev xM : Memref sig .tc .vmem S128x4096 .f32 := Memref.whole cc0_stg0_0
abbrev x8M : Memref sig .tc .vmem S128x4096 .fp8e5m2 := Memref.whole cc0_scratch0
abbrev wbM : Memref sig .tc .vmem S2x4096x256 .f32 := Memref.whole cc0_scratch1
abbrev bkM : Memref sig .tc .vmem S32x128x64 .bf16 := Memref.whole cc0_scratch2

abbrev slabR (d : Dev nD) : Rect S32x128x64 := Rect.unit (s := S32x128x64) ![d.val, 0, 0] S1x128x64.size (inb_slab d)
abbrev slotR (l : Fin 2) : Rect S2x4096x256 := Rect.unit (s := S2x4096x256) ![l.val, 0, 0] S1x4096x256.size (inb_slot l)
abbrev rowR (s : Dev nD) : Rect S4096x64 := Rect.unit (s := S4096x64) ![128 * s.val, 0] S128x64.size (inb_row s)
abbrev colR (p : Fin 8) : Rect S4096x2048 := Rect.unit (s := S4096x2048) ![0, 256 * p.val] S4096x256.size (inb_col p)

/-- Rows `128 s ..` of the result. -/
abbrev rowM (s : Dev nD) : Memref sig .tc .hbm S128x64 .bf16 := outM.slice (rowR s) (fun _ => rfl)
/-- Slab `d` of the blocks buffer, as the transfers see it. -/
abbrev slabM (d : Dev nD) : Memref sig .tc .vmem S128x64 .bf16 :=
  (bkM.slice (slabR d) (fun _ => rfl)).squeeze S128x64 squeezes_S1x128x64_S128x64
/-- Slot `l` of the weights buffer, as the transfers see it. -/
abbrev slotM (l : Fin 2) : Memref sig .tc .vmem S4096x256 .f32 :=
  (wbM.slice (slotR l) (fun _ => rfl)).squeeze S4096x256 squeezes_S1x4096x256_S4096x256
/-- Columns `256 p ..` of the weights. -/
abbrev colM (p : Fin 8) : Memref sig .tc .hbm S4096x256 .f32 := wM.slice (colR p) (fun _ => rfl)

/-! ## The semaphores -/

def rdyS (j : Dev nD) : Sem sig :=
  (((cc0_scratch7 : Sems sig S32).slice (Rect.unit (s := S32) ![j.val] S1.size (inb_s32 j))).squeeze S_ squeezes_S1_S_).sem
def sndS (j : Dev nD) : DmaSem sig :=
  (((cc0_scratch3 : DmaSems sig S32).slice (Rect.unit (s := S32) ![j.val] S1.size (inb_s32 j))).squeeze S_ squeezes_S1_S_).sem
def rcvS (j : Dev nD) : DmaSem sig :=
  (((cc0_scratch4 : DmaSems sig S32).slice (Rect.unit (s := S32) ![j.val] S1.size (inb_s32 j))).squeeze S_ squeezes_S1_S_).sem
def wS (l : Fin 2) : DmaSem sig :=
  (((cc0_scratch6 : DmaSems sig S2).slice (Rect.unit (s := S2) ![l.val] S1.size (inb_s2 l))).squeeze S_ squeezes_S1_S_).sem
abbrev locS : DmaSem sig := (cc0_scratch5 : DmaSems sig S_).sem
abbrev barS : Sem sig := (SemArray.scalar (sig.barrier 0 rfl) : Sems sig S_).sem

/-- Two devices have different ready semaphores. -/
theorem rdyS_inj : ∀ a b : Dev nD, rdyS a = rdyS b → a = b := by decide +kernel
/-- Two devices have different send semaphores. -/
theorem sndS_inj : ∀ a b : Dev nD, sndS a = sndS b → a = b := by decide +kernel
/-- Two devices have different receive semaphores. -/
theorem rcvS_inj : ∀ a b : Dev nD, rcvS a = rcvS b → a = b := by decide +kernel
/-- No receive semaphore is a send semaphore. -/
theorem rcv_ne_snd : ∀ a b : Dev nD, rcvS a ≠ sndS b := by decide +kernel

abbrev rdyC (c j : Dev nD) : GSem nD τ sig := ((c : Thread nD τ), .reg (rdyS j))
abbrev sndC (c j : Dev nD) : GSem nD τ sig := ((c : Thread nD τ), .dma (sndS j))
abbrev rcvC (c j : Dev nD) : GSem nD τ sig := ((c : Thread nD τ), .dma (rcvS j))

/-- The units one block's transfer raises. -/
abbrev N : ℕ := (rowM 0 : Memref sig .tc .hbm S128x64 .bf16).view.dmaCredit
/-- A block's transfer raises at least one unit. -/
theorem N_pos : 0 < N := View.dmaCredit_pos _ (by decide)
/-- A transfer into any device's rows raises the same units. -/
theorem N_row (s : Dev nD) : (rowM s : Memref sig .tc .hbm S128x64 .bf16).view.dmaCredit = N := rfl
/-- A transfer out of any slab raises the same units. -/
theorem N_slab (d : Dev nD) : (slabM d : Memref sig .tc .vmem S128x64 .bf16).view.dmaCredit = N := by decide +revert +kernel
/-- The units one panel's transfer raises. -/
abbrev NW : ℕ := (slotM 0 : Memref sig .tc .vmem S4096x256 .f32).view.dmaCredit
/-- A panel's transfer raises at least one unit. -/
theorem NW_pos : 0 < NW := View.dmaCredit_pos _ (by decide)

/-! ## The values -/

/-- The local block of `x`, the weights and the scales on device `c` at launch. -/
def xin (c : Dev nD) : Vec F S128x4096 .f32 := m ((c : Thread nD τ).loc main_arg0)
def win (c : Dev nD) : Vec F S4096x2048 .f32 := m ((c : Thread nD τ).loc main_arg1)
def sxin (c : Dev nD) : Vec F S1 .f32 := m ((c : Thread nD τ).loc main_arg2)
def swin (c : Dev nD) : Vec F S1 .f32 := m ((c : Thread nD τ).loc main_arg3)

def i0 : (S1 : Shape).Idx := fun _ => ⟨0, by decide +revert⟩

/-- The block of `x` cast down. -/
def x8 (c : Dev nD) : Vec F S128x4096 .fp8e5m2 := k0_pay1 (xin m c)

/-- Panel `p` of the weights, as a 4096 x 256 array. -/
def wcol (c : Dev nD) (p : Fin 8) : Vec F S4096x256 .f32 := fun y => win m c ((colR p).emb y)

/-- A slot has as many entries with its leading axis as without. -/
theorem rs_slot : S4096x256.numel = S1x4096x256.numel := by decide
/-- A slab has as many entries with its leading axis as without. -/
theorem rs_slab : S128x64.numel = S1x128x64.numel := by decide

/-- Panel `p` of the weights as the kernel loads it. -/
def wpan (c : Dev nD) (p : Fin 8) : Vec F S1x4096x256 .f32 := fun y =>
  wcol m c p ((Shape.reshapeEquiv (s := S1x4096x256) (s' := S4096x256) rs_slot).symm y)

/-- Panel number of target `d`: its 256 columns hold the 64 columns of the targets `4 p ..`. -/
def dpan (d : Dev nD) : Fin 8 := ⟨d.val / 4, by have : d.val < 32 := d.isLt; omega⟩

/-- What device `c` stores in slab `d`: its rows of the product for target `d`. -/
def slab1 (c d : Dev nD) : Vec F S1x128x64 .bf16 :=
  let a := x8 m c
  let b := wpan m c (dpan d)
  let u := sxin m c i0
  let v := swin m c i0
  if d.val % 4 = 0 then k0_pay3 a b u v
  else if d.val % 4 = 1 then k0_pay4 a b u v
  else if d.val % 4 = 2 then k0_pay6 (k0_pay5 a b u v)
  else k0_pay7 (k0_pay2 a b u v)

/-- The same, as the transfer reads it. -/
def slabv (c d : Dev nD) : Vec F S128x64 .bf16 := fun x =>
  slab1 m c d (Shape.reshapeEquiv (s := S1x128x64) (s' := S128x64) rs_slab x)

def ix2 (a : Fin 128) (b : Fin 64) : S128x64.Idx := fun k => match k with
  | ⟨0, _⟩ => a
  | ⟨1, _⟩ => b

/-- The whole result on device `c`: rows `128 s ..` come from device `s`. -/
def outv (c : Dev nD) : Vec F S4096x64 .bf16 := fun i =>
  slabv m ⟨(i 0).val / 128, by have : (i 0).val < 4096 := (i 0).isLt; show _ < 32; omega⟩ c
    (ix2 ⟨(i 0).val % 128, Nat.mod_lt _ (by decide)⟩ (i 1))

/-! ## The assertions -/

/-- Rows `128 s ..` of the result on device `c`. -/
def rowP (c s : Dev nD) (f : Buf (Elt F) ((rowM s).view.loc (c : Thread nD τ))) : sProp 𝕄 :=
  (rowM s).view.loc (c : Thread nD τ) ↦[(rowM s).view.set]{fullShare} f
/-- Slab `d` of the blocks buffer on device `c`. -/
def slabP (c d : Dev nD) (f : Buf (Elt F) ((slabM d).view.loc (c : Thread nD τ))) : sProp 𝕄 :=
  (slabM d).view.loc (c : Thread nD τ) ↦[(slabM d).view.set]{fullShare} f
/-- Slot `l` of the weights buffer on device `c`. -/
def slotP (c : Dev nD) (l : Fin 2) (f : Buf (Elt F) ((slotM l).view.loc (c : Thread nD τ))) : sProp 𝕄 :=
  (slotM l).view.loc (c : Thread nD τ) ↦[(slotM l).view.set]{fullShare} f

instance rowP_storable (c s : Dev nD) (f) : BI.Storable (upEmb : UEmb _ 𝕄) (rowP (F := F) c s f) := by unfold rowP; infer_instance
instance slabP_storable (c s : Dev nD) (f) : BI.Storable (upEmb : UEmb _ 𝕄) (slabP (F := F) c s f) := by unfold slabP; infer_instance

/-! ## The schedule -/

abbrev Kx : Type := Fin 3 × Dev nD
/-- The counters of the exchange: ready, send, receive. -/
def ksem (x : Kx) : SemLoc sig := match x with
  | (0, j) => .reg (rdyS j)
  | (1, j) => .dma (sndS j)
  | (2, j) => .dma (rcvS j)

/-- Different names of the exchange name different semaphores. -/
theorem ksem_inj : Function.Injective ksem := by
  rintro ⟨a, j⟩ ⟨b, k⟩ h
  fin_cases a <;> fin_cases b <;> simp only [ksem] at h
  · rw [rdyS_inj j k (by injection h)]
  · cases h
  · cases h
  · cases h
  · rw [sndS_inj j k (by injection h)]
  · exact absurd (by injection h : sndS j = rcvS k).symm (rcv_ne_snd _ _)
  · cases h
  · exact absurd (by injection h : rcvS j = sndS k) (rcv_ne_snd _ _)
  · rw [rcvS_inj j k (by injection h)]

open Classical in
/-- Which counter of the exchange a semaphore is. -/
def dec (s : SemLoc sig) : Option Kx := if h : ∃ x, ksem x = s then some h.choose else none

/-- A semaphore of the exchange is decoded to its name. -/
theorem dec_ksem (x : Kx) : dec (ksem x) = some x := by
  have h : ∃ y, ksem y = ksem x := ⟨x, rfl⟩
  unfold dec; rw [dif_pos h, ksem_inj h.choose_spec]

/-- A semaphore outside the exchange has no name. -/
theorem dec_none {s : SemLoc sig} (h : ∀ x, ksem x ≠ s) : dec s = none := by
  unfold dec; rw [dif_neg (fun ⟨x, hx⟩ => h x hx)]

abbrev kcell (c : Dev nD) (x : Kx) : GSem nD τ sig := ((c : Thread nD τ), ksem x)

/-- What a round hands its cell's owner. Ready: the signaller's rows for the owner. Send: the slab. Receive: the rows, landed. -/
def pay (c : Dev nD) (x : Kx) : sProp 𝕄 := match x with
  | (0, j) => if j = c then iprop(emp) else iprop(∃ f, rowP j c f)
  | (1, j) => iprop(∃ f, slabP c j f)
  | (2, j) => rowP c j (outv m c)

instance pay_storable (c : Dev nD) (x : Kx) : BI.Storable (upEmb : UEmb _ 𝕄) (pay (F := F) m c x) := by
  obtain ⟨a, j⟩ := x
  fin_cases a <;> simp only [pay] <;> (repeat' split) <;> infer_instance

def hasDuty (c : Dev nD) (x : Kx) : Prop := x.1 = 0 ∨ x.2 ≠ c
instance (c : Dev nD) (x : Kx) : Decidable (hasDuty c x) := by unfold hasDuty; infer_instance

open Classical in
/-- One round per cell with one duty: a unit on a ready cell, a block's credit on a send or receive cell. -/
def rd : Rounds.Schedule (GSem nD τ sig) Unit 𝕄 where
  duties g r := if r = 0 ∧ g.1.2 = .tc ∧ ∃ x, dec g.2 = some x ∧ hasDuty g.1.1 x then {()} else ∅
  unitless _ := False
  amount g _ _ := match dec g.2 with
    | some (0, _) => 1
    | _ => N
  payload g _ _ := match dec g.2 with
    | some x => pay m g.1.1 x
    | none => iprop(emp)
  amount_pos g _ _ _ := by
    split
    · exact Nat.one_pos
    · exact N_pos

instance rd_payload_storable (g : GSem nD τ sig) (r : ℕ) (d : Unit) :
    BI.Storable (upEmb : UEmb _ 𝕄) ((rd (F := F) m).payload g r d) := by
  show BI.Storable upEmb (match dec g.2 with
    | some x => pay m g.1.1 x
    | none => iprop(emp))
  split <;> infer_instance

/-- A cell that is used has one duty in its first round. -/
theorem duties_of (c : Dev nD) (x : Kx) (h : hasDuty c x) : (rd (F := F) m).duties (kcell c x) 0 = {()} := by
  dsimp only [rd]; exact if_pos ⟨rfl, rfl, x, dec_ksem x, h⟩
/-- A cell that is not used has no duty in its first round. -/
theorem duties_none (c : Dev nD) (x : Kx) (h : ¬ hasDuty c x) : (rd (F := F) m).duties (kcell c x) 0 = ∅ := by
  dsimp only [rd]; refine if_neg ?_
  rintro ⟨-, -, y, hy, hd⟩
  rw [dec_ksem] at hy; cases hy; exact h hd
/-- No cell has a duty after its first round. -/
theorem duties_later (g : GSem nD τ sig) : ∀ r, 1 ≤ r → (rd (F := F) m).duties g r = ∅ :=
  fun r hr => by dsimp only [rd]; rw [if_neg fun h => by omega]
/-- A cell that is not used never has a duty. -/
theorem duties_never (c : Dev nD) (x : Kx) (h : ¬ hasDuty c x) : ∀ r, 0 ≤ r → (rd (F := F) m).duties (kcell c x) r = ∅ := fun r _ => by
  rcases Nat.eq_zero_or_pos r with rfl | hr
  · exact duties_none m c x h
  · exact duties_later m _ r hr

/-- A ready signal raises one unit. -/
theorem amount_rdy (c j : Dev nD) (d : Unit) : (rd (F := F) m).amount (rdyC c j) 0 d = 1 := by
  show (match dec (ksem (0, j)) with | some (0, _) => 1 | _ => N) = 1
  rw [dec_ksem]; rfl
/-- A finished sending raises a block's units. -/
theorem amount_snd (c j : Dev nD) (d : Unit) : (rd (F := F) m).amount (sndC c j) 0 d = N := by
  show (match dec (ksem (1, j)) with | some (0, _) => 1 | _ => N) = N
  rw [dec_ksem]; rfl
/-- An arrived block raises a block's units. -/
theorem amount_rcv (c j : Dev nD) (d : Unit) : (rd (F := F) m).amount (rcvC c j) 0 d = N := by
  show (match dec (ksem (2, j)) with | some (0, _) => 1 | _ => N) = N
  rw [dec_ksem]; rfl

/-- A duty of the first round hands over what its cell is there for. -/
theorem payload_of (c : Dev nD) (x : Kx) (d : Unit) : (rd (F := F) m).payload (kcell c x) 0 d = pay m c x := by
  show (match dec (ksem x) with | some x => pay m c x | none => iprop(emp)) = _
  rw [dec_ksem]

/-- A ready wait expects one unit. -/
theorem expect_rdy (c j : Dev nD) : (rd (F := F) m).expect (rdyC c j) 0 = 1 := by
  unfold Schedule.expect Schedule.amountOf
  rw [show rdyC c j = kcell c (0, j) from rfl, duties_of m c (0, j) (Or.inl rfl), Finset.sum_singleton]; exact amount_rdy m c j ()
/-- A send wait for another device expects a block's units. -/
theorem expect_snd (c j : Dev nD) (h : j ≠ c) : (rd (F := F) m).expect (sndC c j) 0 = N := by
  unfold Schedule.expect Schedule.amountOf
  rw [show sndC c j = kcell c (1, j) from rfl, duties_of m c (1, j) (Or.inr h), Finset.sum_singleton]; exact amount_snd m c j ()
/-- A receive wait for another device expects a block's units. -/
theorem expect_rcv (c j : Dev nD) (h : j ≠ c) : (rd (F := F) m).expect (rcvC c j) 0 = N := by
  unfold Schedule.expect Schedule.amountOf
  rw [show rcvC c j = kcell c (2, j) from rfl, duties_of m c (2, j) (Or.inr h), Finset.sum_singleton]; exact amount_rcv m c j ()

/-- A wait on a cell that is used gets what the cell is there for. -/
theorem rest_of (c : Dev nD) (x : Kx) (h : hasDuty c x) :
    bigSep ((rd (F := F) m).duties (kcell c x) 0 \ ∅) (fun d => (rd (F := F) m).payload (kcell c x) 0 d) = pay m c x := by
  rw [Finset.sdiff_empty, duties_of m c x h, bigSep_singleton, payload_of]

/-! ## Levels and what each device owes -/

def L (g : GSem nD τ sig) : Finset Unit := if g.1.2 = .tc then {()} else ∅
/-- The barrier cell at 1, ready cells at 2, receive cells at 3, everything else at 0. -/
def lv (g : GSem nD τ sig) (_ : Unit) : ℕ := match dec g.2 with
  | some (0, _) => 2
  | some (2, _) => 3
  | _ => if g.2 = .reg barS then 1 else 0

/-- Only cells of the cores carry levels. -/
theorem L_of_ne (g : GSem nD τ sig) (h : g.1.2 ≠ .tc) : L g = ∅ := if_neg h
/-- Every cell of a core carries a level. -/
theorem L_tc (c : Dev nD) (sm : SemLoc sig) : L ((c : Thread nD τ), sm) = {()} := if_pos rfl
/-- Ready cells are at level 2. -/
theorem lv_rdy (c j : Dev nD) (u : Unit) : lv (rdyC c j) u = 2 := by
  show (match dec (ksem (0, j)) with | some (0, _) => 2 | some (2, _) => 3 | _ => _) = 2
  rw [dec_ksem]; rfl
/-- Receive cells are at level 3. -/
theorem lv_rcv (c j : Dev nD) (u : Unit) : lv (rcvC c j) u = 3 := by
  show (match dec (ksem (2, j)) with | some (0, _) => 2 | some (2, _) => 3 | _ => _) = 3
  rw [dec_ksem]; rfl
/-- A cell outside the exchange, other than the barrier's, is at level 0. -/
theorem lv_other (c : Dev nD) (s : SemLoc sig) (h : ∀ x, ksem x ≠ s) (hb : s ≠ .reg barS) (u : Unit) : lv ((c : Thread nD τ), s) u = 0 := by
  show (match dec s with | some (0, _) => 2 | some (2, _) => 3 | _ => if s = .reg barS then 1 else 0) = 0
  rw [dec_none h]; exact if_neg hb
/-- No ready semaphore is the barrier's. -/
theorem rdy_ne_bar : ∀ j : Dev nD, rdyS j ≠ barS := by decide +kernel
/-- The barrier's cell is at level 1. -/
theorem lv_bar (c : Dev nD) (u : Unit) : lv ((c : Thread nD τ), .reg barS) u = 1 := by
  show (match dec (.reg barS) with | some (0, _) => 2 | some (2, _) => 3 | _ => if (SemLoc.reg barS : SemLoc sig) = .reg barS then 1 else 0) = 1
  rw [dec_none (fun x h => by
    obtain ⟨a, j⟩ := x
    fin_cases a <;> simp only [ksem] at h
    · exact rdy_ne_bar j (by injection h)
    · cases h
    · cases h)]
  exact if_pos rfl

/-- Everything owed in `O` sits on a core's cell above level `l`. -/
def Above (l : ℕ) (O : CellTallies nD τ sig Unit) : Prop := ∀ g u, 0 < O g u → u ∈ L g ∧ l < lv g u
/-- Owing nothing is above every level. -/
theorem Above.zero (l : ℕ) : Above l 0 := fun g u h => absurd h (Nat.lt_irrefl 0)
/-- Two debts above a level are together above it. -/
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
/-- A debt on one cell is above every level below the cell's. -/
theorem Above.tally {l : ℕ} (c : Dev nD) (s : SemLoc sig) (n : ℕ) (h : l < lv ((c : Thread nD τ), s) ()) :
    Above l (tallyAt ((c : Thread nD τ), s) () n) := fun g u hg => by
  rw [tallyAt_apply] at hg
  by_cases h' : g = ((c : Thread nD τ), s) ∧ u = ()
  · rw [h'.1, L_tc]; exact ⟨Finset.mem_singleton_self _, h⟩
  · rw [if_neg h'] at hg; exact absurd hg (Nat.lt_irrefl 0)
/-- Debts each above a level are together above it. -/
theorem Above.sum {l : ℕ} {ι : Type} (S : Finset ι) (O : ι → CellTallies nD τ sig Unit) (h : ∀ i ∈ S, Above l (O i)) : Above l (∑ i ∈ S, O i) := by
  classical
  induction S using Finset.induction_on with
  | empty => rw [Finset.sum_empty]; exact Above.zero l
  | insert a S ha ih =>
    rw [Finset.sum_insert ha]
    exact (h a (Finset.mem_insert_self _ _)).add (ih fun i hi => h i (Finset.mem_insert_of_mem hi))

/-- A core may wait on a cell if all it owes sits above the cell's level. -/
theorem mayWait_of {c : Dev nD} {sm : SemLoc sig} {O : CellTallies nD τ sig Unit} (l : ℕ) (hl : lv ((c : Thread nD τ), sm) () ≤ l) (hO : Above l O) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => (hO g u hg).1)
    (fun p hp => by rw [Finset.mem_singleton.mp hp]; exact hl)
    (fun g u hg => (hO g u hg).2)

/-- The ready units device `c` has still to raise, from device `n` on. -/
def Ordy (c : Dev nD) (n : ℕ) : CellTallies nD τ sig Unit := ∑ k ∈ Finset.Ico n 32, tallyAt (rdyC (dv k) c) () 1
/-- The receive credit device `c` has still to raise, from its `n`-th target on. -/
def Orcv (c : Dev nD) (n : ℕ) : CellTallies nD τ sig Unit :=
  ∑ k ∈ Finset.Ico n 32, if tgt c k = c then 0 else tallyAt (rcvC (tgt c k) c) () N
def O₀ (c : Dev nD) : CellTallies nD τ sig Unit := Ordy c 0 + Orcv c 0

/-- A sum from `n` to 31 is its first term and the rest. -/
theorem sum_peel {M : Type} [AddCommMonoid M] (f : ℕ → M) {n : ℕ} (h : n < 32) :
    ∑ k ∈ Finset.Ico n 32, f k = f n + ∑ k ∈ Finset.Ico (n + 1) 32, f k := by
  have e : Finset.Ico n 32 = insert n (Finset.Ico (n + 1) 32) := by
    ext k; simp only [Finset.mem_insert, Finset.mem_Ico]; omega
  rw [e, Finset.sum_insert (by simp)]
/-- The ready signals owed from turn `n` on are one to device `n` and those after it. -/
theorem Ordy_peel (c : Dev nD) {n : ℕ} (h : n < 32) : Ordy c n = Ordy c (n + 1) + tallyAt (rdyC (dv n) c) () 1 := by
  unfold Ordy; rw [sum_peel _ h, add_comm]
/-- The blocks owed from turn `n` on are one to another device and those after it. -/
theorem Orcv_peel (c : Dev nD) {n : ℕ} (h : n < 32) (hc : tgt c n ≠ c) : Orcv c n = Orcv c (n + 1) + tallyAt (rcvC (tgt c n) c) () N := by
  unfold Orcv; rw [sum_peel _ h, if_neg hc, add_comm]
/-- At the turn of the device itself no block is owed. -/
theorem Orcv_skip (c : Dev nD) {n : ℕ} (h : n < 32) (hc : tgt c n = c) : Orcv c n = Orcv c (n + 1) := by
  unfold Orcv; rw [sum_peel _ h, if_pos hc, zero_add]
/-- After all turns no ready signal is owed. -/
theorem Ordy_end (c : Dev nD) : Ordy c 32 = 0 := by unfold Ordy; rw [Finset.Ico_self, Finset.sum_empty]
/-- After all turns no block is owed. -/
theorem Orcv_end (c : Dev nD) : Orcv c 32 = 0 := by unfold Orcv; rw [Finset.Ico_self, Finset.sum_empty]
/-- The blocks owed are above every level below 3. -/
theorem above_Orcv (c : Dev nD) (n : ℕ) {l : ℕ} (hl : l < 3) : Above l (Orcv c n) := Above.sum _ _ fun k _ => by
  split
  · exact Above.zero l
  · exact Above.tally _ _ _ (by rw [show lv _ () = 3 from lv_rcv (tgt c k) c ()]; exact hl)
/-- The ready signals owed are above every level below 2. -/
theorem above_Ordy (c : Dev nD) (n : ℕ) {l : ℕ} (hl : l < 2) : Above l (Ordy c n) := Above.sum _ _ fun k _ =>
  Above.tally _ _ _ (by rw [show lv _ () = 2 from lv_rdy (dv k) c ()]; exact hl)

end Cert.K

end
-- ==== Proof.Steps.lean ====
module

public import proofs.«01_k».proof.Proof.Sched

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The core's run of a program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What the core owes, whatever it has waited for. -/
def OW (c : Dev nD) (O : CellTallies nD τ sig Unit) : sProp 𝕄 := iprop(∃ W, owes (c : Thread nD τ) O W)

/-- The cells' invariants, their first marks and the levels. -/
def ctx (K : Dev nD × Kx → ℕ) : sProp 𝕄 :=
  iprop(bigSep Finset.univ (fun x : Dev nD × Kx => cellInv ER (rd m) (K x) (kcell x.1 x.2))
    ∗ bigSep Finset.univ (fun x : Dev nD × Kx => reached ER (kcell x.1 x.2) 0) ∗ levAts L lv)

instance ctx_persistent (K : Dev nD × Kx → ℕ) : BI.Persistent (ctx m K) := by unfold ctx; infer_instance

/-- A family of facts gives each of its members. -/
theorem big_at {I : Type} [DecidableEq I] {s : Finset I} {i : I} (h : i ∈ s) {Φ : I → sProp 𝕄} : (bigSep s Φ : sProp 𝕄) ⊢ Φ i := bigSep_elim h

/-- The standing facts hold every cell's invariant. -/
theorem ctx_inv (K : Dev nD × Kx → ℕ) (c : Dev nD) (x : Kx) : ctx m K ⊢ cellInv ER (rd m) (K (c, x)) (kcell c x) := by
  unfold ctx
  iintro ⟨H, -, -⟩
  iapply (big_at (Finset.mem_univ (c, x))) $$ H
/-- The standing facts hold that every cell has reached its first round. -/
theorem ctx_reached (K : Dev nD × Kx → ℕ) (c : Dev nD) (x : Kx) : ctx m K ⊢ reached ER (kcell c x) 0 := by
  unfold ctx
  iintro ⟨-, H, -⟩
  iapply (big_at (Finset.mem_univ (c, x))) $$ H
/-- The standing facts hold the levels. -/
theorem ctx_lev (K : Dev nD × Kx → ℕ) : ctx m K ⊢ (levAts L lv : sProp 𝕄) := by
  unfold ctx
  iintro ⟨-, -, H⟩; iexact H

/-! ## The weights' slots -/

def wq (l : Fin 2) : PosShare TreeShare := if l = 0 then fullShare.left else fullShare.right

def wAll (c : Dev nD) (l : Fin 2) : sProp 𝕄 := ((c : Thread nD τ).loc main_arg1) ↦[Finset.univ]{wq l} win m c
def wCol (c : Dev nD) (l : Fin 2) (p : Fin 8) : sProp 𝕄 :=
  (colM p).view.loc (c : Thread nD τ) ↦[(colM p).view.set]{wq l} win m c
def wRest (c : Dev nD) (l : Fin 2) (p : Fin 8) : sProp 𝕄 :=
  ((c : Thread nD τ).loc main_arg1) ↦[Finset.univ \ (colM p).view.set]{wq l} win m c

/-- The share of the weights for a slot is a panel's columns and the rest. -/
theorem wAll_split (c : Dev nD) (l : Fin 2) (p : Fin 8) : wAll m c l ⊣⊢ iprop(wCol m c l p ∗ wRest m c l p) := by
  unfold wAll wCol wRest
  exact pointsTo_split_subset (Finset.subset_univ _)

/-- Slot `l` holding panel `p`. -/
def slotOk (c : Dev nD) (l : Fin 2) (p : Fin 8) : sProp 𝕄 :=
  iprop(∃ f, ⌜wbM.view.readAt (Elt F) (slotR l).toLoadRect f = wpan m c p⌝ ∗ slotP c l f)
def idle (c : Dev nD) (l : Fin 2) : sProp 𝕄 :=
  iprop((∃ f, slotP c l f) ∗ wAll m c l ∗ semVal ((c : Thread nD τ), .dma (wS l)) 0)
def fly (c : Dev nD) (l : Fin 2) (p : Fin 8) : sProp 𝕄 :=
  iprop(Flight EC (c : Thread nD τ) (.dma (wS l)) () NW iprop(slotOk m c l p ∗ wCol m c l p) ∗ wRest m c l p)

/-- A slot into which panel `p` was copied reads as panel `p`. -/
theorem slot_written (c : Dev nD) (l : Fin 2) (p : Fin 8) (fd : Buf (Elt F) ((slotM l).view.loc (c : Thread nD τ))) :
    wbM.view.readAt (Elt F) (slotR l).toLoadRect
      ((slotM l).view.write (Elt F) fd ((colM p).view.read (Elt F) (win m c)) Finset.univ) = wpan m c p := by
  funext y
  rw [View.readAt_rect]
  have h := View.read_write_reshape (v := wbM.view.slice (slotR l)) (s' := S4096x256) rs_slot fd ((colM p).view.read (Elt F) (win m c))
    ((Shape.reshapeEquiv (s := S1x4096x256) (s' := S4096x256) rs_slot).symm y)
  rw [Equiv.apply_symm_apply] at h
  exact h

/-- A transfer into any slot raises the same units. -/
theorem NW_slot (l : Fin 2) : (slotM l : Memref sig .tc .vmem S4096x256 .f32).view.dmaCredit = NW := by
  fin_cases l <;> decide +kernel

/-- Starting the copy of panel `p` into slot `l`. -/
theorem wp_panel (c : Dev nD) (l : Fin 2) (p : Fin 8) {offw : Fin 2 → ℕ} {offs : Fin 3 → ℕ} {offl : Fin 1 → ℕ}
    (ho : offw = ![0, 256 * p.val]) (hs : offs = ![l.val, 0, 0]) (hl : offl = ![l.val])
    {i1 : ∀ a, offw a + S4096x256.size a ≤ S4096x2048.size a} {i2 : ∀ a, offs a + S1x4096x256.size a ≤ S2x4096x256.size a}
    {i3 : ∀ a, offl a + S1.size a ≤ S2.size a} {hsrc} {hdst} {hsem}
    {α : Type} {k : PUnit → Prog (TpuEff nD τ sig (Elt F) Λ₀ .tc) α} {Q : α → sProp 𝕄} :
    idle m c l ⊢ iprop((fly m c l p -∗ WP c (k ⟨⟩) Q) -∗ WP c
      (.op (.enqueueDma (wM.slice (Rect.unit (s := S4096x2048) offw S4096x256.size i1) (fun _ => rfl))
        (.here ((wbM.slice (Rect.unit (s := S2x4096x256) offs S1x4096x256.size i2) (fun _ => rfl)).squeeze S4096x256 squeezes_S1x4096x256_S4096x256))
        (.dma (((cc0_scratch6 : DmaSems sig S2).slice (Rect.unit (s := S2) offl S1.size i3)).squeeze S_ squeezes_S1_S_).sem) hsrc hdst hsem) k) Q) := by
  subst ho; subst hs; subst hl
  unfold idle
  iintro ⟨⟨%f, Hs⟩, Hw, Hv⟩ Hk
  ihave Hw := (wAll_split m c l p).1 $$ Hw
  icases Hw with ⟨Hc, Hr⟩
  unfold slotP wCol
  iapply (wp_dmaLocal EC 𝒱₀ (c : Thread nD τ) none (src := colM p) (dst := slotM l) (sm := .dma (wS l)) () NW (NW_slot l) NW_pos (Finset.Subset.refl _)) $$ [Hs Hc Hv]
  · isplitl [Hc]; · iexact Hc
    isplitl [Hs]; · iexact Hs
    iexact Hv
  iintro HF
  iapply Hk
  unfold fly
  isplitl [HF]
  · iapply (Flight_mono EC (c : Thread nD τ) ?_) $$ HF
    iintro ⟨Hs, Hc⟩
    isplitl [Hs]
    · unfold slotOk slotP
      iexists _
      isplitr; · ipureintro; exact slot_written m c l p f
      iexact Hs
    · unfold wCol; iexact Hc
  · iexact Hr

/-- No semaphore of the weights is a send or receive semaphore. -/
theorem wS_ne : ∀ (l : Fin 2) (j : Dev nD), sndS j ≠ wS l ∧ rcvS j ≠ wS l := by decide +kernel
/-- The cells of the weights are at level 0. -/
theorem lv_w (c : Dev nD) (l : Fin 2) : lv ((c : Thread nD τ), .dma (wS l)) () = 0 :=
  lv_other c _ (fun x h => by
    obtain ⟨a, j⟩ := x
    fin_cases a <;> simp only [ksem] at h
    · cases h
    · exact (wS_ne l j).1 (by injection h)
    · exact (wS_ne l j).2 (by injection h)) (fun h => by cases h) ()

/-- Waiting for the panel. -/
theorem wp_panel_wait (c : Dev nD) (K : Dev nD × Kx → ℕ) (l : Fin 2) (p : Fin 8) {O : CellTallies nD τ sig Unit} (hO : Above 0 O)
    {offw : Fin 2 → ℕ} {offs : Fin 3 → ℕ} {offl : Fin 1 → ℕ} (hs : offs = ![l.val, 0, 0]) (hl : offl = ![l.val])
    {i1 : ∀ a, offw a + S4096x256.size a ≤ S4096x2048.size a} {i2 : ∀ a, offs a + S1x4096x256.size a ≤ S2x4096x256.size a}
    {i3 : ∀ a, offl a + S1.size a ≤ S2.size a} {hsrc} {hdst}
    {α : Type} {k : PUnit → Prog (TpuEff nD τ sig (Elt F) Λ₀ .tc) α} {Q : α → sProp 𝕄} :
    iprop(ctx m K ∗ fly m c l p ∗ OW c O) ⊢ iprop(((slotOk m c l p ∗ wAll m c l ∗ semVal ((c : Thread nD τ), .dma (wS l)) 0 ∗ OW c O) -∗ WP c (k ⟨⟩) Q) -∗ WP c
      (.op (.waitDma2 (((cc0_scratch6 : DmaSems sig S2).slice (Rect.unit (s := S2) offl S1.size i3)).squeeze S_ squeezes_S1_S_).sem
        (wM.slice (Rect.unit (s := S4096x2048) offw S4096x256.size i1) (fun _ => rfl))
        ((wbM.slice (Rect.unit (s := S2x4096x256) offs S1x4096x256.size i2) (fun _ => rfl)).squeeze S4096x256 squeezes_S1x4096x256_S4096x256)
        hsrc hdst) k) Q) := by
  subst hs; subst hl
  have hM : ctx m K ⊢ MayWait (c : Thread nD τ) (.dma (wS l)) () O := by
    refine (ctx_lev m K).trans ?_
    have h0 : lv ((c : Thread nD τ), .dma (wS l)) () ≤ 0 := by rw [lv_w]
    exact mayWait_of 0 h0 hO
  unfold fly OW
  iintro ⟨#Hc, ⟨HF, Hr⟩, ⟨%W, HO⟩⟩ Hk
  iapply (wp_waitLocalO EC 𝒱₀ (c : Thread nD τ) none (sem := wS l) (dstw := slotM l) () (NW_slot l)) $$ [HF HO]
  · isplitl [HF]; · iexact HF
    isplitl [HO]; · iexact HO
    iapply hM; iexact Hc
  iintro ⟨⟨Hs, Hw⟩, Hv, HO⟩
  iapply Hk
  isplitl [Hs]; · iexact Hs
  isplitl [Hw Hr]
  · iapply (wAll_split m c l p).2
    isplitl [Hw]; · iexact Hw
    iexact Hr
  isplitl [Hv]; · iexact Hv
  iexists _; iexact HO

/-! ## The slabs -/

/-- Slab `d` holding the rows for target `d`. -/
def slabOk (c d : Dev nD) : sProp 𝕄 :=
  iprop(∃ f, ⌜(slabM d).view.read (Elt F) f = slabv m c d⌝ ∗ slabP c d f)

/-- A slab has the same places whether seen with its leading axis or without. -/
theorem slab_set (d : Dev nD) : (slabM d).view.set = (bkM.access (slabR d)).set := View.set_reshape _ _

/-- A slab into which the result for device `d` was stored reads as that result. -/
theorem slab_written (c d : Dev nD) (f : Buf (Elt F) ((slabM d).view.loc (c : Thread nD τ))) :
    (slabM d).view.read (Elt F) ((bkM.access (slabR d)).write (Elt F) f (slab1 m c d) Finset.univ) = slabv m c d := by
  funext x
  show (bkM.access (slabR d)).read (Elt F) ((bkM.access (slabR d)).write (Elt F) f (slab1 m c d) Finset.univ) (Shape.reshapeEquiv (s := S1x128x64) (s' := S128x64) rs_slab x) = _
  rw [View.read_write_univ]; rfl

/-- Storing a target's rows in its slab. -/
theorem wp_slab_put (c d : Dev nD) {off : Fin 3 → ℕ} (ho : off = ![d.val, 0, 0]) {w : Vec F S1x128x64 .bf16} (hw : w = slab1 m c d)
    {i1 : ∀ a, off a + S1x128x64.size a ≤ S32x128x64.size a} {hl} {hx} {hm}
    {α : Type} {k : PUnit → Prog (TpuEff nD τ sig (Elt F) Λ₀ .tc) α} {Q : α → sProp 𝕄} :
    iprop(∃ f, slabP c d f) ⊢ iprop((slabOk m c d -∗ WP c (k ⟨⟩) Q) -∗ WP c
      (.op (.load bkM (Rect.unit (s := S32x128x64) off S1x128x64.size i1).toLoadRect hl)
        fun _ => .op (.store bkM (Rect.unit (s := S32x128x64) off S1x128x64.size i1) w Finset.univ hx hm) k) Q) := by
  subst ho; subst hw
  unfold slabP
  iintro ⟨%f, Hs⟩ Hk
  iapply (wp_load 𝒱₀ (c : Thread nD τ) none Set.univ (m := bkM) (r := (slabR d).toLoadRect) (S := (slabM d).view.set) (le_of_eq (by
    rw [slab_set]; exact (View.set_slice _ _).symm))) $$ Hs
  iintro Hs
  iapply (wp_store 𝒱₀ (c : Thread nD τ) none Set.univ (m := bkM) (r := slabR d) (Mk := Finset.univ) (S := (slabM d).view.set) (le_of_eq (by
    rw [slab_set]; exact View.setOn_univ _))) $$ Hs
  iintro Hs
  iapply Hk
  unfold slabOk slabP
  iexists _
  isplitr; · ipureintro; exact slab_written m c d f
  iexact Hs

/-! ## The rows -/

/-- The rows into which device `s` sent its slab for `c` hold what the result of `c` should hold there. -/
theorem row_landed (c s : Dev nD) (fd : Buf (Elt F) ((rowM s).view.loc (c : Thread nD τ))) :
    ∀ i ∈ (rowM s).view.set, (rowM s).view.write (Elt F) fd (slabv m s c) Finset.univ i = outv m c i := by
  intro i hi
  obtain ⟨x, rfl⟩ := View.exists_of_mem_set_slice (v := outM.view) (r := rowR s) hi
  refine (View.eq_of_read_eq (v := (rowM s).view) (g := outv m c) ?_)
  rw [View.read_write_univ]
  show slabv m s c x = outv m c ((rowR s).emb x)
  unfold outv
  have hs : s.val < 32 := s.isLt
  have h0 : (((rowR s).emb x) 0).val = 128 * s.val + (x 0).val := by
    show 128 * s.val + 1 * (x 0).val = _; omega
  have h1 : (((rowR s).emb x) 1).val = (x 1).val := by
    show 0 + 1 * (x 1).val = _; omega
  have hx : (x 0).val < 128 := (x 0).isLt
  have e1 : (⟨(((rowR s).emb x) 0).val / 128, by rw [h0]; show _ < 32; omega⟩ : Dev nD) = s := Fin.ext (by show _ / 128 = _; rw [h0]; omega)
  rw [e1]
  congr 1
  funext a
  match a with
  | ⟨0, _⟩ => exact Fin.ext (by show (x 0).val = _ % 128; rw [h0]; omega)
  | ⟨1, _⟩ => exact Fin.ext h1.symm

end Cert.K

end
-- ==== Proof.Steps2.lean ====
module

public import proofs.«01_k».proof.Proof.Steps
public import Idealize.SL.BI.BigOpNat

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The ready signals -/

/-- What the signal to device `n` takes: its token, and the rows of the result meant for that device. -/
def rdyTok (c : Dev nD) (n : ℕ) : sProp 𝕄 :=
  iprop(dutyTok ER (rdyC (dv n) c) 0 () ∗ (if c = dv n then iprop(emp) else iprop(∃ f, rowP c (dv n) f)))
def rdys (c : Dev nD) (n : ℕ) : sProp 𝕄 := bigSep (Finset.Ico n 32) (rdyTok c)

/-- The ready signal to device `n`: it spends that device's token and rows, and one unit of debt. -/
theorem wp_rdy (c : Dev nD) (K : Dev nD × Kx → ℕ) (n : ℕ) (hn : n < 32) {dst : Dev nD} (hd : dst = dv n) {off : Fin 1 → ℕ} (ho : off = ![c.val])
    {i1 : ∀ a, off a + S1.size a ≤ S32.size a} {am : ℤ} (ha : am = ((1 : ℕ) : ℤ)) {O : CellTallies nD τ sig Unit}
    {α : Type} {k : PUnit → Prog (TpuEff nD τ sig (Elt F) Λ₀ .tc) α} {Q : α → sProp 𝕄} :
    iprop(ctx m K ∗ rdys c n ∗ OW c (Ordy c n + O)) ⊢ iprop(((rdys c (n + 1) ∗ OW c (Ordy c (n + 1) + O)) -∗ WP c (k ⟨⟩) Q) -∗ WP c
      (.op (.semSignal (dst : Thread nD τ)
        (((cc0_scratch7 : Sems sig S32).slice (Rect.unit (s := S32) off S1.size i1)).squeeze S_ squeezes_S1_S_).sem am) k) Q) := by
  subst hd; subst ho; subst ha
  unfold rdys OW
  rw [bigSep_Ico_succ_bot hn]
  have hpay : (rd m).payload (rdyC (dv n) c) 0 () = (if c = dv n then iprop(emp) else iprop(∃ f, rowP c (dv n) f) : sProp 𝕄) := payload_of m (dv n) (0, c) ()
  iintro ⟨#Hc, ⟨Ht, Hr⟩, ⟨%W, HO⟩⟩ Hk
  ihave #HI := (ctx_inv m K (dv n) (0, c)) $$ Hc
  ihave #HR := (ctx_reached m K (dv n) (0, c)) $$ Hc
  unfold rdyTok
  icases Ht with ⟨Ht, Hp⟩
  iapply (Rounds.wp_signal 𝒱₀ ER (rd m) (c : Thread nD τ) none (dst := (dv n : Thread nD τ)) (sem := rdyS c) (κ := K (dv n, (0, c)))
      (d := ()) (r := 0) (by rw [show ((dv n : Thread nD τ), SemLoc.reg (rdyS c)) = kcell (dv n) (0, c) from rfl, duties_of m (dv n) (0, c) (Or.inl rfl)]; exact Finset.mem_singleton_self _)
      (amount_rdy m (dv n) c ()) () (Ordy c (n + 1) + O) ((congrArg (· + O) (Ordy_peel c hn)).trans (add_right_comm _ _ _)))
    $$ [HO Ht Hp]
  · isplitr; · iexact HI
    isplitl [HO]; · iexact HO
    isplitl [Ht]; · iexact Ht
    isplitl [Hp]; · rw [hpay]; iexact Hp
    iexact HR
  iintro HO
  iapply Hk
  isplitl [Hr]; · iexact Hr
  iexists W; iexact HO

/-! ## Sending a slab -/

/-- What sending to another device takes. -/
def sendTok (c d : Dev nD) : sProp 𝕄 :=
  iprop(atPos ER (rdyC c d) 0 ∅ 0 ∗ cred (tallyAt (rdyC c d) () 1) ∗ dutyTok ER (sndC c d) 0 () ∗ dutyTok ER (rcvC d c) 0 ())

/-- The start of the local copy: the device's own slab is on its way to its own rows. -/
theorem wp_local (c : Dev nD) {offr : Fin 2 → ℕ} {offs : Fin 3 → ℕ} (hr : offr = ![128 * c.val, 0]) (hs : offs = ![c.val, 0, 0])
    {i1 : ∀ a, offr a + S128x64.size a ≤ S4096x64.size a} {i2 : ∀ a, offs a + S1x128x64.size a ≤ S32x128x64.size a} {hsrc} {hdst} {hsem}
    {α : Type} {k : PUnit → Prog (TpuEff nD τ sig (Elt F) Λ₀ .tc) α} {Q : α → sProp 𝕄} :
    iprop(slabOk m c c ∗ (∃ f, rowP c c f) ∗ semVal ((c : Thread nD τ), .dma locS) 0)
      ⊢ iprop((Flight EC (c : Thread nD τ) (.dma locS) () N iprop(rowP c c (outv m c) ∗ ∃ f, slabP c c f) -∗ WP c (k ⟨⟩) Q) -∗ WP c
      (.op (.enqueueDma ((bkM.slice (Rect.unit (s := S32x128x64) offs S1x128x64.size i2) (fun _ => rfl)).squeeze S128x64 squeezes_S1x128x64_S128x64)
        (.here (outM.slice (Rect.unit (s := S4096x64) offr S128x64.size i1) (fun _ => rfl)))
        (.dma (cc0_scratch5 : DmaSems sig S_).sem) hsrc hdst hsem) k) Q) := by
  subst hr; subst hs
  unfold slabOk slabP rowP
  iintro ⟨⟨%f, %hf, Hs⟩, ⟨%g, Hr⟩, Hv⟩ Hk
  iapply (wp_dmaLocal EC 𝒱₀ (c : Thread nD τ) none (src := slabM c) (dst := rowM c) (sm := .dma locS) () N (N_row c) N_pos (Finset.Subset.refl _)) $$ [Hs Hr Hv]
  · isplitl [Hs]; · iexact Hs
    isplitl [Hr]; · iexact Hr
    iexact Hv
  iintro HF
  iapply Hk
  iapply (Flight_mono EC (c : Thread nD τ) ?_) $$ HF
  iintro ⟨Hr, Hs⟩
  isplitl [Hr]
  · iapply (Entails.of_eq (pointsTo_congr (fun i hi => ?_))) $$ Hr
    show (rowM c).view.write (Elt F) g ((slabM c).view.read (Elt F) f) Finset.univ i = outv m c i
    rw [hf]; exact row_landed m c c g i hi
  · iexists f; iexact Hs

/-- The ready wait and the sending to another device: the slab is spent for the credit of the send wait, and a block of debt is paid. -/
theorem wp_remote (c d : Dev nD) (hcd : d ≠ c) (K : Dev nD × Kx → ℕ) {O : CellTallies nD τ sig Unit} (hO : Above 2 (O + tallyAt (rcvC d c) () N))
    {offd offc : Fin 1 → ℕ} {offr : Fin 2 → ℕ} {offs : Fin 3 → ℕ} (hd : offd = ![d.val]) (hc : offc = ![c.val])
    (hr : offr = ![128 * c.val, 0]) (hs : offs = ![d.val, 0, 0]) {dst : Dev nD} (hdst : dst = d) {am : ℤ} (ha : am = ((1 : ℕ) : ℤ))
    {i1 : ∀ a, offd a + S1.size a ≤ S32.size a} {i1' : ∀ a, offd a + S1.size a ≤ S32.size a} {i2 : ∀ a, offc a + S1.size a ≤ S32.size a}
    {i3 : ∀ a, offr a + S128x64.size a ≤ S4096x64.size a} {i4 : ∀ a, offs a + S1x128x64.size a ≤ S32x128x64.size a} {hsc} {hsrc} {hds} {hsem}
    {α : Type} {k : PUnit → Prog (TpuEff nD τ sig (Elt F) Λ₀ .tc) α} {Q : α → sProp 𝕄} :
    iprop(ctx m K ∗ slabOk m c d ∗ sendTok c d ∗ OW c (O + tallyAt (rcvC d c) () N))
      ⊢ iprop(((cred (tallyAt (sndC c d) () N) ∗ semVal (rdyC c d) 0 ∗ OW c O) -∗ WP c (k ⟨⟩) Q) -∗ WP c
      (.op (.semWait (((cc0_scratch7 : Sems sig S32).slice (Rect.unit (s := S32) offd S1.size i1)).squeeze S_ squeezes_S1_S_).sem am) fun _ =>
        .op (.enqueueDma ((bkM.slice (Rect.unit (s := S32x128x64) offs S1x128x64.size i4) (fun _ => rfl)).squeeze S128x64 squeezes_S1x128x64_S128x64)
          (.remote (Dev.tc dst) (outM.slice (Rect.unit (s := S4096x64) offr S128x64.size i3) (fun _ => rfl))
            (.dma (((cc0_scratch3 : DmaSems sig S32).slice (Rect.unit (s := S32) offd S1.size i1')).squeeze S_ squeezes_S1_S_).sem) hsc)
          (.dma (((cc0_scratch4 : DmaSems sig S32).slice (Rect.unit (s := S32) offc S1.size i2)).squeeze S_ squeezes_S1_S_).sem) hsrc hds hsem) k) Q) := by
  subst hd; subst hc; subst hr; subst hs; subst hdst; subst ha
  have hM : ctx m K ⊢ MayWait (c : Thread nD τ) (.reg (rdyS dst)) () (O + tallyAt (rcvC dst c) () N) := by
    refine (ctx_lev m K).trans ?_
    have h0 : lv ((c : Thread nD τ), .reg (rdyS dst)) () ≤ 2 := Nat.le_of_eq (lv_rdy c dst ())
    exact mayWait_of 2 h0 hO
  have hne : ¬ dst = c := hcd
  have hne' : ¬ c = dst := fun h => hcd h.symm
  have hrest : bigSep ((rd m).duties (rdyC c dst) 0 \ ∅) (fun d => (rd m).payload (rdyC c dst) 0 d) = (iprop(∃ f, rowP dst c f) : sProp 𝕄) :=
    (rest_of m c (0, dst) (Or.inl rfl)).trans (if_neg hne)
  have hp1 : (rd m).payload (sndC c dst) 0 () = (iprop(∃ f, slabP c dst f) : sProp 𝕄) := payload_of m c (1, dst) ()
  have hp2 : (rd m).payload (rcvC dst c) 0 () = (rowP dst c (outv m dst) : sProp 𝕄) := payload_of m dst (2, c) ()
  unfold sendTok OW
  iintro ⟨#Hc, Hs, ⟨Hat, Hcr, Hts, Htr⟩, ⟨%W, HO⟩⟩ Hk
  ihave #HIr := (ctx_inv m K c (0, dst)) $$ Hc
  ihave #HIs := (ctx_inv m K c (1, dst)) $$ Hc
  ihave #HIv := (ctx_inv m K dst (2, c)) $$ Hc
  ihave #HRs := (ctx_reached m K c (1, dst)) $$ Hc
  ihave #HRv := (ctx_reached m K dst (2, c)) $$ Hc
  iapply (Rounds.wp_wait_rest_token 𝒱₀ ER (rd m) (c : Thread nD τ) none (κ := K (c, (0, dst))) (sm := .reg (rdyS dst)) (k' := 1)
      (wpE_semWait_eq 𝒱₀ (c : Thread nD τ) none Set.univ) (Set.mem_univ _) () (O := O + tallyAt (rcvC dst c) () N) (W := W) (R := 0) (m := 0) (T := ∅)
      (by rw [Nat.zero_add]; exact (expect_rdy m c dst).symm)) $$ [Hcr HO Hat]
  · isplitr; · iexact HIr
    isplitl [Hcr]; · iexact Hcr
    isplitl [HO]; · iexact HO
    isplitr; · iapply hM; iexact Hc
    iexact Hat
  iintro ⟨HO, Hat, -, Hpay⟩
  imod (Rounds.cell_close ER (rd m) (Set.mem_univ (K (c, (0, dst)))) (fun h => h) (R := 0 + 1) (duties_later m (rdyC c dst))) $$ [Hat] with Hz
  · isplitr; · iexact HIr
    iexact Hat
  ihave Hp := (Entails.of_eq hrest) $$ Hpay
  icases Hp with ⟨%g, Hr⟩
  unfold slabOk
  icases Hs with ⟨%f, %hf, Hs⟩
  unfold slabP rowP
  iapply (Rounds.wp_send_pointsTo 𝒱₀ ER (rd m) (c : Thread nD τ) none (c' := (dst : Thread nD τ)) (src := slabM dst) (dst := rowM c)
      (sS := .dma (sndS dst)) (sem := .dma (rcvS c)) (κ₁ := K (c, (1, dst))) (κ₂ := K (dst, (2, c)))
      (r₁ := 0) (r₂ := 0) (d₁ := ()) (d₂ := ()) (fs := f) (fd := g)
      (by rw [show ((c : Thread nD τ), SemLoc.dma (sndS dst)) = kcell c (1, dst) from rfl, duties_of m c (1, dst) (Or.inr hne)]; exact Finset.mem_singleton_self _)
      (by rw [show ((dst : Thread nD τ), SemLoc.dma (rcvS c)) = kcell dst (2, c) from rfl, duties_of m dst (2, c) (Or.inr hne')]; exact Finset.mem_singleton_self _)
      () () N (N_row c) (amount_snd m c dst ()) (amount_rcv m dst c ()) O rfl (W := insert (SemLoc.reg (rdyS dst), ()) W)
      (by rw [show ((c : Thread nD τ), SemLoc.dma (sndS dst)) = sndC c dst from rfl, hp1]; unfold slabP; iintro H; iexists f; iexact H)
      (by
        rw [show ((dst : Thread nD τ), SemLoc.dma (rcvS c)) = rcvC dst c from rfl, hp2]; unfold rowP
        refine Entails.of_eq (pointsTo_congr (fun i hi => ?_))
        rw [hf]; exact row_landed m dst c g i hi)) $$ [Hs Hr HO Hts Htr]
  · isplitr; · iexact HIs
    isplitr; · iexact HIv
    isplitl [Hs]; · iexact Hs
    isplitl [Hr]; · iexact Hr
    isplitl [HO]; · iexact HO
    isplitl [Hts]; · iexact Hts
    isplitr; · iexact HRs
    isplitl [Htr]; · iexact Htr
    iexact HRv
  iintro ⟨Hcs, HO⟩
  iapply Hk
  isplitl [Hcs]; · iexact Hcs
  isplitl [Hz]; · iexact Hz
  iexists _; iexact HO

/-! ## The last waits -/

/-- The receive wait for another device: it gives the rows that this device sent, filled as the result should be. -/
theorem wp_rcv_wait (c e : Dev nD) (hce : e ≠ c) (K : Dev nD × Kx → ℕ) {offe : Fin 1 → ℕ} (he : offe = ![e.val])
    {i1 : ∀ a, offe a + S1.size a ≤ S32.size a} {offr : Fin 2 → ℕ} {i3 : ∀ a, offr a + S128x64.size a ≤ S4096x64.size a}
    {sp : Space} {srcw : Memref sig .tc sp S128x64 .bf16} {hsrc} {hdst}
    {α : Type} {k : PUnit → Prog (TpuEff nD τ sig (Elt F) Λ₀ .tc) α} {Q : α → sProp 𝕄} :
    iprop(ctx m K ∗ (atPos ER (rcvC c e) 0 ∅ 0 ∗ cred (tallyAt (rcvC c e) () N)) ∗ OW c 0)
      ⊢ iprop((((semVal (rcvC c e) 0 ∗ rowP c e (outv m c)) ∗ OW c 0) -∗ WP c (k ⟨⟩) Q) -∗ WP c
      (.op (.waitDma2 (((cc0_scratch4 : DmaSems sig S32).slice (Rect.unit (s := S32) offe S1.size i1)).squeeze S_ squeezes_S1_S_).sem
        srcw (outM.slice (Rect.unit (s := S4096x64) offr S128x64.size i3) (fun _ => rfl)) hsrc hdst) k) Q) := by
  subst he
  have hrest : bigSep ((rd m).duties (rcvC c e) 0 \ ∅) (fun d => (rd m).payload (rcvC c e) 0 d) = (rowP c e (outv m c) : sProp 𝕄) :=
    rest_of m c (2, e) (Or.inr hce)
  unfold OW
  iintro ⟨#Hc, ⟨Hat, Hcr⟩, ⟨%W, HO⟩⟩ Hk
  ihave #HI := (ctx_inv m K c (2, e)) $$ Hc
  iapply (Rounds.wp_wait_rest_token 𝒱₀ ER (rd m) (c : Thread nD τ) none (κ := K (c, (2, e))) (sm := .dma (rcvS e)) (k' := N)
      (fun _ => rfl) (Set.mem_univ _) () (O := 0) (W := W) (R := 0) (m := 0) (T := ∅)
      (by rw [Nat.zero_add]; exact (expect_rcv m c e hce).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  imod (Rounds.cell_close ER (rd m) (Set.mem_univ (K (c, (2, e)))) (fun h => h) (R := 0 + 1) (duties_later m (rcvC c e))) $$ [Hat] with Hz
  · isplitr; · iexact HI
    iexact Hat
  ihave Hp := (Entails.of_eq hrest) $$ Hpay
  iapply Hk
  isplitl [Hz Hp]
  · isplitl [Hz]; · iexact Hz
    iexact Hp
  iexists _; iexact HO

/-- The send wait for another device: it gives back the slab that was sent. -/
theorem wp_snd_wait (c e : Dev nD) (hce : e ≠ c) (K : Dev nD × Kx → ℕ) {offe : Fin 1 → ℕ} (he : offe = ![e.val])
    {i1 : ∀ a, offe a + S1.size a ≤ S32.size a} {offs : Fin 3 → ℕ} (hs : offs = ![e.val, 0, 0]) {i3 : ∀ a, offs a + S1x128x64.size a ≤ S32x128x64.size a}
    {sp : Space} {srcw : Memref sig .tc sp S128x64 .bf16} {hsrc} {hdst}
    {α : Type} {k : PUnit → Prog (TpuEff nD τ sig (Elt F) Λ₀ .tc) α} {Q : α → sProp 𝕄} :
    iprop(ctx m K ∗ (atPos ER (sndC c e) 0 ∅ 0 ∗ cred (tallyAt (sndC c e) () N)) ∗ OW c 0)
      ⊢ iprop((((semVal (sndC c e) 0 ∗ ∃ f, slabP c e f) ∗ OW c 0) -∗ WP c (k ⟨⟩) Q) -∗ WP c
      (.op (.waitDma2 (((cc0_scratch3 : DmaSems sig S32).slice (Rect.unit (s := S32) offe S1.size i1)).squeeze S_ squeezes_S1_S_).sem
        srcw ((bkM.slice (Rect.unit (s := S32x128x64) offs S1x128x64.size i3) (fun _ => rfl)).squeeze S128x64 squeezes_S1x128x64_S128x64) hsrc hdst) k) Q) := by
  subst he; subst hs
  have hrest : bigSep ((rd m).duties (sndC c e) 0 \ ∅) (fun d => (rd m).payload (sndC c e) 0 d) = (iprop(∃ f, slabP c e f) : sProp 𝕄) :=
    rest_of m c (1, e) (Or.inr hce)
  unfold OW
  iintro ⟨#Hc, ⟨Hat, Hcr⟩, ⟨%W, HO⟩⟩ Hk
  ihave #HI := (ctx_inv m K c (1, e)) $$ Hc
  iapply (Rounds.wp_wait_rest_token 𝒱₀ ER (rd m) (c : Thread nD τ) none (κ := K (c, (1, e))) (sm := .dma (sndS e)) (k' := N)
      (fun J => by rw [wpE_waitDma2_eq, ← N_slab e]; rfl) (Set.mem_univ _) () (O := 0) (W := W) (R := 0) (m := 0) (T := ∅)
      (by rw [Nat.zero_add]; exact (expect_snd m c e hce).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  imod (Rounds.cell_close ER (rd m) (Set.mem_univ (K (c, (1, e)))) (fun h => h) (R := 0 + 1) (duties_later m (sndC c e))) $$ [Hat] with Hz
  · isplitr; · iexact HI
    iexact Hat
  ihave Hp := (Entails.of_eq hrest) $$ Hpay
  iapply Hk
  isplitl [Hz Hp]
  · isplitl [Hz]; · iexact Hz
    iexact Hp
  iexists _; iexact HO

/-- The device's wait for its own ready signal. -/
theorem wp_own_wait (c : Dev nD) (K : Dev nD × Kx → ℕ) {offe : Fin 1 → ℕ} (he : offe = ![c.val]) {am : ℤ} (ha : am = ((1 : ℕ) : ℤ))
    {i1 : ∀ a, offe a + S1.size a ≤ S32.size a}
    {α : Type} {k : PUnit → Prog (TpuEff nD τ sig (Elt F) Λ₀ .tc) α} {Q : α → sProp 𝕄} :
    iprop(ctx m K ∗ (atPos ER (rdyC c c) 0 ∅ 0 ∗ cred (tallyAt (rdyC c c) () 1)) ∗ OW c 0)
      ⊢ iprop(((semVal (rdyC c c) 0 ∗ OW c 0) -∗ WP c (k ⟨⟩) Q) -∗ WP c
      (.op (.semWait (((cc0_scratch7 : Sems sig S32).slice (Rect.unit (s := S32) offe S1.size i1)).squeeze S_ squeezes_S1_S_).sem am) k) Q) := by
  subst he; subst ha
  unfold OW
  iintro ⟨#Hc, ⟨Hat, Hcr⟩, ⟨%W, HO⟩⟩ Hk
  ihave #HI := (ctx_inv m K c (0, c)) $$ Hc
  iapply (Rounds.wp_wait_rest_token 𝒱₀ ER (rd m) (c : Thread nD τ) none (κ := K (c, (0, c))) (sm := .reg (rdyS c)) (k' := 1)
      (wpE_semWait_eq 𝒱₀ (c : Thread nD τ) none Set.univ) (Set.mem_univ _) () (O := 0) (W := W) (R := 0) (m := 0) (T := ∅)
      (by rw [Nat.zero_add]; exact (expect_rdy m c c).symm)) $$ [Hcr HO Hat]
  · isplitr; · iexact HI
    isplitl [Hcr]; · iexact Hcr
    isplitl [HO]; · iexact HO
    isplitr; · rw [MayWait_zero]; iempintro
    iexact Hat
  iintro ⟨HO, Hat, -, Hpay⟩
  imod (Rounds.cell_close ER (rd m) (Set.mem_univ (K (c, (0, c)))) (fun h => h) (R := 0 + 1) (duties_later m (rdyC c c))) $$ [Hat] with Hz
  · isplitr; · iexact HI
    iexact Hat
  iapply Hk
  isplitl [Hz]; · iexact Hz
  iexists _; iexact HO

/-- The device's wait for its own slab's copy. -/
theorem wp_local_wait (c : Dev nD) {offr : Fin 2 → ℕ} {i3 : ∀ a, offr a + S128x64.size a ≤ S4096x64.size a} {D : sProp 𝕄}
    {sp : Space} {srcw : Memref sig .tc sp S128x64 .bf16} {hsrc} {hdst}
    {α : Type} {k : PUnit → Prog (TpuEff nD τ sig (Elt F) Λ₀ .tc) α} {Q : α → sProp 𝕄} :
    iprop(Flight EC (c : Thread nD τ) (.dma locS) () N D ∗ OW c 0)
      ⊢ iprop(((D ∗ semVal ((c : Thread nD τ), .dma locS) 0 ∗ OW c 0) -∗ WP c (k ⟨⟩) Q) -∗ WP c
      (.op (.waitDma2 (cc0_scratch5 : DmaSems sig S_).sem
        srcw (outM.slice (Rect.unit (s := S4096x64) offr S128x64.size i3) (fun _ => rfl)) hsrc hdst) k) Q) := by
  unfold OW
  iintro ⟨HF, ⟨%W, HO⟩⟩ Hk
  iapply (wp_waitLocalO EC 𝒱₀ (c : Thread nD τ) none (sem := locS) (N := N) () (by rfl)) $$ [HF HO]
  · isplitl [HF]; · iexact HF
    isplitl [HO]; · iexact HO
    rw [MayWait_zero]; iempintro
  iintro ⟨HD, Hv, HO⟩
  iapply Hk
  isplitl [HD]; · iexact HD
  isplitl [Hv]; · iexact Hv
  iexists _; iexact HO

/-! ## The barrier -/

/-- The signal to the device's own barrier and the wait for it: nothing changes. -/
theorem wp_barrier (c : Dev nD) (K : Dev nD × Kx → ℕ) {dst : Dev nD} (hd : dst = c) {O : CellTallies nD τ sig Unit} (hO : Above 1 O) {am am' : ℤ} (ha : am = ((1 : ℕ) : ℤ)) (ha' : am' = ((1 : ℕ) : ℤ))
    {α : Type} {k : PUnit → Prog (TpuEff nD τ sig (Elt F) Λ₀ .tc) α} {Q : α → sProp 𝕄} :
    iprop(ctx m K ∗ semVal ((c : Thread nD τ), .reg barS) 0 ∗ OW c O)
      ⊢ iprop(((semVal ((c : Thread nD τ), .reg barS) 0 ∗ OW c O) -∗ WP c (k ⟨⟩) Q) -∗ WP c
      (.op (.semSignal (dst : Thread nD τ) barS am) fun _ => .op (.semWait barS am') k) Q) := by
  subst hd; subst ha; subst ha'
  have hM : ctx m K ⊢ MayWait (dst : Thread nD τ) (.reg barS) () O := by
    refine (ctx_lev m K).trans ?_
    have h0 : lv ((dst : Thread nD τ), .reg barS) () ≤ 1 := Nat.le_of_eq (lv_bar dst ())
    exact mayWait_of 1 h0 hO
  unfold OW
  iintro ⟨#Hc, Hv, ⟨%W, HO⟩⟩ Hk
  iapply (wp_signalLocal EC 𝒱₀ (dst : Thread nD τ) none (sem := barS) (n := 1) () rfl) $$ Hv
  iintro HS
  iapply (wp_semWaitLocalO EC 𝒱₀ (dst : Thread nD τ) none (sem := barS) (n := 1) () Nat.one_pos) $$ [HS HO]
  · isplitl [HS]; · iexact HS
    isplitl [HO]; · iexact HO
    iapply hM; iexact Hc
  iintro ⟨Hv, HO⟩
  iapply Hk
  isplitl [Hv]; · iexact Hv
  iexists _; iexact HO

end Cert.K

end
-- ==== Proof.Parts.lean ====
module

public import proofs.«01_k».proof.Proof.Steps2
public import Idealize.SL.BI.BigOpNat

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The body's signals and last waits, part by part -/

/-- A program run before another: what it leaves is what the other starts from. -/
theorem wp_then {c : Dev nD} {α β : Type} {p : Prog (TpuEff nD τ sig (Elt F) Λ₀ .tc) α} {k : α → Prog (TpuEff nD τ sig (Elt F) Λ₀ .tc) β}
    {R : sProp 𝕄} {S : α → sProp 𝕄} {Q : β → sProp 𝕄} (h : R ⊢ WP c p S) :
    R ⊢ iprop((∀ a, S a -∗ WP c (k a) Q) -∗ WP c (p >>= k) Q) := by
  unfold WP
  rw [wp_bind]
  exact h.trans (wp_wand _ _ _)

/-- A program that ends at once needs what is to hold at its end. -/
theorem WP_ret {c : Dev nD} {α : Type} (a : α) (Q : α → sProp 𝕄) :
    WP c (.ret a : Prog (TpuEff nD τ sig (Elt F) Λ₀ .tc) α) Q = iprop(|={Set.univ}=> Q a) := wp_ret _ _ _ a Q

/-! ## The last waits, counted -/

/-- The receive wait for the `t`-th next device, still to come; and what it gives. -/
def RP (c : Dev nD) (t : ℕ) : sProp 𝕄 :=
  iprop(atPos ER (rcvC c (dv (c.val + t))) 0 ∅ 0 ∗ cred (tallyAt (rcvC c (dv (c.val + t))) () N))
def RG (c : Dev nD) (t : ℕ) : sProp 𝕄 := iprop(semVal (rcvC c (dv (c.val + t))) 0 ∗ rowP c (dv (c.val + t)) (outv m c))
/-- The send wait for the `t`-th next device, still to come; and what it gives. -/
def SP (c : Dev nD) (t : ℕ) : sProp 𝕄 :=
  iprop(atPos ER (sndC c (dv (c.val + t))) 0 ∅ 0 ∗ cred (tallyAt (sndC c (dv (c.val + t))) () N))
def SG (c : Dev nD) (t : ℕ) : sProp 𝕄 := iprop(semVal (sndC c (dv (c.val + t))) 0 ∗ ∃ f, slabP c (dv (c.val + t)) f)

/-- The receive waits below `a` and the send waits below `b` are done. -/
def fin (c : Dev nD) (a b : ℕ) : sProp 𝕄 :=
  iprop(bigSep (Finset.Ico a 32) (RP c) ∗ bigSep (Finset.Ico 1 a) (RG m c)
    ∗ bigSep (Finset.Ico b 32) (SP c) ∗ bigSep (Finset.Ico 1 b) (SG c) ∗ OW c 0)

/-- The counted last waits, written out. -/
theorem fin_eq (c : Dev nD) (a b : ℕ) : fin m c a b = iprop(bigSep (Finset.Ico a 32) (RP c) ∗ bigSep (Finset.Ico 1 a) (RG m c)
    ∗ bigSep (Finset.Ico b 32) (SP c) ∗ bigSep (Finset.Ico 1 b) (SG c) ∗ OW c 0) := rfl

/-- A device 1 to 31 places on is another device. -/
theorem dv_add_ne (c : Dev nD) (t : ℕ) (h0 : 1 ≤ t) (h1 : t < 32) : dv (c.val + t) ≠ c := by
  intro h
  have h2 : (c.val + t) % 32 = c.val := congrArg Fin.val h
  have h3 : c.val < 32 := c.isLt
  omega

/-- The receive wait for the `a`-th next device: one more receive wait is done. -/
theorem wp_rwait (c : Dev nD) (K : Dev nD × Kx → ℕ) (a b : ℕ) (h0 : 1 ≤ a) (h1 : a < 32) {offe : Fin 1 → ℕ} (he : offe = ![(dv (c.val + a)).val])
    {i1 : ∀ a, offe a + S1.size a ≤ S32.size a} {offr : Fin 2 → ℕ} {i3 : ∀ a, offr a + S128x64.size a ≤ S4096x64.size a}
    {sp : Space} {srcw : Memref sig .tc sp S128x64 .bf16} {hsrc} {hdst}
    {α : Type} {k : PUnit → Prog (TpuEff nD τ sig (Elt F) Λ₀ .tc) α} {Q : α → sProp 𝕄} :
    iprop(ctx m K ∗ fin m c a b) ⊢ iprop((fin m c (a + 1) b -∗ WP c (k ⟨⟩) Q) -∗ WP c
      (.op (.waitDma2 (((cc0_scratch4 : DmaSems sig S32).slice (Rect.unit (s := S32) offe S1.size i1)).squeeze S_ squeezes_S1_S_).sem
        srcw (outM.slice (Rect.unit (s := S4096x64) offr S128x64.size i3) (fun _ => rfl)) hsrc hdst) k) Q) := by
  unfold fin
  rw [bigSep_Ico_succ_bot h1, bigSep_Ico_succ_top h0]
  iintro ⟨#Hc, ⟨Ht, Hr⟩, Hg, Hs, Hsg, HO⟩ Hk
  iapply (wp_rcv_wait m c (dv (c.val + a)) (dv_add_ne c a h0 h1) K he) $$ [Ht HO]
  · isplitr; · iexact Hc
    isplitl [Ht]; · unfold RP; iexact Ht
    iexact HO
  iintro ⟨Ht, HO⟩
  iapply Hk
  isplitl [Hr]; · iexact Hr
  isplitl [Ht Hg]
  · isplitl [Ht]; · unfold RG; iexact Ht
    iexact Hg
  isplitl [Hs]; · iexact Hs
  isplitl [Hsg]; · iexact Hsg
  iexact HO

/-- The send wait for the `b`-th next device: one more send wait is done. -/
theorem wp_swait (c : Dev nD) (K : Dev nD × Kx → ℕ) (a b : ℕ) (h0 : 1 ≤ b) (h1 : b < 32) {offe : Fin 1 → ℕ} (he : offe = ![(dv (c.val + b)).val])
    {i1 : ∀ a, offe a + S1.size a ≤ S32.size a} {offs : Fin 3 → ℕ} (hs : offs = ![(dv (c.val + b)).val, 0, 0])
    {i3 : ∀ a, offs a + S1x128x64.size a ≤ S32x128x64.size a}
    {sp : Space} {srcw : Memref sig .tc sp S128x64 .bf16} {hsrc} {hdst}
    {α : Type} {k : PUnit → Prog (TpuEff nD τ sig (Elt F) Λ₀ .tc) α} {Q : α → sProp 𝕄} :
    iprop(ctx m K ∗ fin m c a b) ⊢ iprop((fin m c a (b + 1) -∗ WP c (k ⟨⟩) Q) -∗ WP c
      (.op (.waitDma2 (((cc0_scratch3 : DmaSems sig S32).slice (Rect.unit (s := S32) offe S1.size i1)).squeeze S_ squeezes_S1_S_).sem
        srcw ((bkM.slice (Rect.unit (s := S32x128x64) offs S1x128x64.size i3) (fun _ => rfl)).squeeze S128x64 squeezes_S1x128x64_S128x64) hsrc hdst) k) Q) := by
  unfold fin
  rw [bigSep_Ico_succ_bot h1, bigSep_Ico_succ_top h0]
  iintro ⟨#Hc, Hr, Hrg, ⟨Ht, Hs⟩, Hg, HO⟩ Hk
  iapply (wp_snd_wait m c (dv (c.val + b)) (dv_add_ne c b h0 h1) K he hs) $$ [Ht HO]
  · isplitr; · iexact Hc
    isplitl [Ht]; · unfold SP; iexact Ht
    iexact HO
  iintro ⟨Ht, HO⟩
  iapply Hk
  isplitl [Hr]; · iexact Hr
  isplitl [Hrg]; · iexact Hrg
  isplitl [Hs]; · iexact Hs
  isplitl [Ht Hg]
  · isplitl [Ht]; · unfold SG; iexact Ht
    iexact Hg
  iexact HO

/-- The printed semaphore of the last waits is that of the device `r + 1` places on. -/
theorem off39_t (c : Dev nD) (r : Fin 31) : k0_off39 c (BitVec.ofNat 32 (1 + r.val)) = ![(dv (c.val + (r.val + 1))).val] := k0_off39_eq c r
/-- The printed slab of the last waits is that of the device `r + 1` places on. -/
theorem off41_t (c : Dev nD) (r : Fin 31) : k0_off41 c (BitVec.ofNat 32 (1 + r.val)) = ![(dv (c.val + (r.val + 1))).val, 0, 0] := k0_off41_eq c r

/-- What the first of these parts takes besides, and what it leaves. -/
def own0 (c : Dev nD) : sProp 𝕄 :=
  iprop((atPos ER (rdyC c c) 0 ∅ 0 ∗ cred (tallyAt (rdyC c c) () 1))
    ∗ Flight EC (c : Thread nD τ) (.dma locS) () N iprop(rowP c c (outv m c) ∗ ∃ f, slabP c c f))
def own1 (c : Dev nD) : sProp 𝕄 :=
  iprop(semVal (rdyC c c) 0 ∗ (rowP c c (outv m c) ∗ ∃ f, slabP c c f) ∗ semVal ((c : Thread nD τ), .dma locS) 0)

/-! ## The same steps as links of a chain -/

/-- A program that ends at once leaves what it was given besides the standing facts. -/
theorem ret_then (c : Dev nD) (K : Dev nD × Kx → ℕ) {α : Type} {a : α} {R : sProp 𝕄} :
    iprop(ctx m K ∗ R) ⊢ WP c (.ret a : Prog (TpuEff nD τ sig (Elt F) Λ₀ .tc) α) (fun _ => R) := by
  rw [WP_ret]
  iintro ⟨-, H⟩
  imodintro; iexact H

/-- The ready signal to device `n`, then a program that starts with the signals from `n + 1` on. -/
theorem rdy_then (c : Dev nD) (K : Dev nD × Kx → ℕ) (n : ℕ) (hn : n < 32) {dst : Dev nD} (hd : dst = dv n) {off : Fin 1 → ℕ} (ho : off = ![c.val])
    {i1 : ∀ a, off a + S1.size a ≤ S32.size a} {am : ℤ} (ha : am = ((1 : ℕ) : ℤ)) {O : CellTallies nD τ sig Unit}
    {α : Type} {k : PUnit → Prog (TpuEff nD τ sig (Elt F) Λ₀ .tc) α} {Q : α → sProp 𝕄}
    (h : iprop(ctx m K ∗ rdys c (n + 1) ∗ OW c (Ordy c (n + 1) + O)) ⊢ WP c (k ⟨⟩) Q) :
    iprop(ctx m K ∗ rdys c n ∗ OW c (Ordy c n + O)) ⊢ WP c (.op (.semSignal (dst : Thread nD τ)
        (((cc0_scratch7 : Sems sig S32).slice (Rect.unit (s := S32) off S1.size i1)).squeeze S_ squeezes_S1_S_).sem am) k) Q := by
  iintro ⟨#Hc, H⟩
  iapply (wp_rdy m c K n hn hd ho ha) $$ [H]
  · isplitr; · iexact Hc
    iexact H
  iintro H
  iapply h
  isplitr; · iexact Hc
  iexact H

/-- The receive wait for the `a`-th next device, then a program that starts with that wait done. -/
theorem rwait_then (c : Dev nD) (K : Dev nD × Kx → ℕ) (a b : ℕ) (h0 : 1 ≤ a) (h1 : a < 32) {offe : Fin 1 → ℕ} (he : offe = ![(dv (c.val + a)).val])
    {i1 : ∀ a, offe a + S1.size a ≤ S32.size a} {offr : Fin 2 → ℕ} {i3 : ∀ a, offr a + S128x64.size a ≤ S4096x64.size a}
    {sp : Space} {srcw : Memref sig .tc sp S128x64 .bf16} {hsrc} {hdst}
    {α : Type} {k : PUnit → Prog (TpuEff nD τ sig (Elt F) Λ₀ .tc) α} {Q : α → sProp 𝕄}
    (h : iprop(ctx m K ∗ fin m c (a + 1) b) ⊢ WP c (k ⟨⟩) Q) :
    iprop(ctx m K ∗ fin m c a b) ⊢ WP c
      (.op (.waitDma2 (((cc0_scratch4 : DmaSems sig S32).slice (Rect.unit (s := S32) offe S1.size i1)).squeeze S_ squeezes_S1_S_).sem
        srcw (outM.slice (Rect.unit (s := S4096x64) offr S128x64.size i3) (fun _ => rfl)) hsrc hdst) k) Q := by
  iintro ⟨#Hc, H⟩
  iapply (wp_rwait m c K a b h0 h1 he) $$ [H]
  · isplitr; · iexact Hc
    iexact H
  iintro H
  iapply h
  isplitr; · iexact Hc
  iexact H

/-- The send wait for the `b`-th next device, then a program that starts with that wait done. -/
theorem swait_then (c : Dev nD) (K : Dev nD × Kx → ℕ) (a b : ℕ) (h0 : 1 ≤ b) (h1 : b < 32) {offe : Fin 1 → ℕ} (he : offe = ![(dv (c.val + b)).val])
    {i1 : ∀ a, offe a + S1.size a ≤ S32.size a} {offs : Fin 3 → ℕ} (hs : offs = ![(dv (c.val + b)).val, 0, 0])
    {i3 : ∀ a, offs a + S1x128x64.size a ≤ S32x128x64.size a}
    {sp : Space} {srcw : Memref sig .tc sp S128x64 .bf16} {hsrc} {hdst}
    {α : Type} {k : PUnit → Prog (TpuEff nD τ sig (Elt F) Λ₀ .tc) α} {Q : α → sProp 𝕄}
    (h : iprop(ctx m K ∗ fin m c a (b + 1)) ⊢ WP c (k ⟨⟩) Q) :
    iprop(ctx m K ∗ fin m c a b) ⊢ WP c
      (.op (.waitDma2 (((cc0_scratch3 : DmaSems sig S32).slice (Rect.unit (s := S32) offe S1.size i1)).squeeze S_ squeezes_S1_S_).sem
        srcw ((bkM.slice (Rect.unit (s := S32x128x64) offs S1x128x64.size i3) (fun _ => rfl)).squeeze S128x64 squeezes_S1x128x64_S128x64) hsrc hdst) k) Q := by
  iintro ⟨#Hc, H⟩
  iapply (wp_swait m c K a b h0 h1 he hs) $$ [H]
  · isplitr; · iexact Hc
    iexact H
  iintro H
  iapply h
  isplitr; · iexact Hc
  iexact H

/-- One part of the last waits, then a program that starts with that part's waits done. -/
theorem part_then (c : Dev nD) (K : Dev nD × Kx → ℕ) {a b a' b' : ℕ} {α β : Type} {p : Prog (TpuEff nD τ sig (Elt F) Λ₀ .tc) α}
    {k : α → Prog (TpuEff nD τ sig (Elt F) Λ₀ .tc) β} {Q : β → sProp 𝕄}
    (h : iprop(ctx m K ∗ fin m c a b) ⊢ WP c p (fun _ => iprop(fin m c a' b')))
    (hk : ∀ x, iprop(ctx m K ∗ fin m c a' b') ⊢ WP c (k x) Q) :
    iprop(ctx m K ∗ fin m c a b) ⊢ WP c (p >>= k) Q := by
  iintro ⟨#Hc, H⟩
  iapply (wp_then h) $$ [H]
  · isplitr; · iexact Hc
    iexact H
  iintro %x H
  iapply (hk x)
  isplitr; · iexact Hc
  iexact H

/-- The part with the device's own waits, then a program of other waits: what the own waits left is kept to the end. -/
theorem first_then (c : Dev nD) (K : Dev nD × Kx → ℕ) {a b a' b' x y : ℕ} {α β : Type} {p : Prog (TpuEff nD τ sig (Elt F) Λ₀ .tc) α}
    {k : α → Prog (TpuEff nD τ sig (Elt F) Λ₀ .tc) β}
    (h : iprop(ctx m K ∗ own0 m c ∗ fin m c a b) ⊢ WP c p (fun _ => iprop(own1 m c ∗ fin m c a' b')))
    (hk : ∀ v, iprop(ctx m K ∗ fin m c a' b') ⊢ WP c (k v) (fun _ => fin m c x y)) :
    iprop(ctx m K ∗ own0 m c ∗ fin m c a b) ⊢ WP c (p >>= k) (fun _ => iprop(own1 m c ∗ fin m c x y)) := by
  iintro ⟨#Hc, H⟩
  iapply (wp_then h) $$ [H]
  · isplitr; · iexact Hc
    iexact H
  iintro %v ⟨Ho, H⟩
  ihave Hw := (hk v) $$ [H]
  · isplitr; · iexact Hc
    iexact H
  unfold WP
  iapply (wp_wand _ _ _) $$ Hw
  iintro %u H
  isplitl [Ho]; · iexact Ho
  iexact H

/-! ## The ready signals, part by part -/
set_option maxHeartbeats 1600000 in
/-- Part 1 of the body sends the ready signals 0 to 5. -/
theorem wp_part1 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond2 i = 1#1}  {O : CellTallies nD τ sig Unit} :
    iprop(ctx m K ∗ rdys c 0 ∗ OW c (Ordy c 0 + O)) ⊢ WP c (k0_part1 i a1 h1 wM h2 a3 h3 a4 h4 outM h5 x8M h6 wbM h7 bkM h8 cc0_scratch3 cc0_scratch4 cc0_scratch5 cc0_scratch6 cc0_scratch7 c hh) (fun _ => iprop(rdys c 6 ∗ OW c (Ordy c 6 + O))) := by
  simp only [k0_part1_eq_skeleton]; unfold k0_part1_skel
  simp only [semSignalWord, semWaitWord, Prog.lift, Prog.bind_op, Prog.bind_ret, Prog.pure_eq_ret]
  refine rdy_then m c K 0 (by omega) (Fin.ext (k0_dev2_eq)) (k0_off1_eq c) (by decide) ?_
  refine rdy_then m c K 1 (by omega) (Fin.ext (k0_dev3_eq)) (k0_off1_eq c) (by decide) ?_
  refine rdy_then m c K 2 (by omega) (Fin.ext (k0_dev4_eq)) (k0_off1_eq c) (by decide) ?_
  refine rdy_then m c K 3 (by omega) (Fin.ext (k0_dev5_eq)) (k0_off1_eq c) (by decide) ?_
  refine rdy_then m c K 4 (by omega) (Fin.ext (k0_dev6_eq)) (k0_off1_eq c) (by decide) ?_
  refine rdy_then m c K 5 (by omega) (Fin.ext (k0_dev7_eq)) (k0_off1_eq c) (by decide) ?_
  exact ret_then m c K

set_option maxHeartbeats 1600000 in
/-- Part 2 of the body sends the ready signals 6 to 12. -/
theorem wp_part2 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond2 i = 1#1} {v145 : BitVec 32} {O : CellTallies nD τ sig Unit} :
    iprop(ctx m K ∗ rdys c 6 ∗ OW c (Ordy c 6 + O)) ⊢ WP c (k0_part2 i a1 h1 wM h2 a3 h3 a4 h4 outM h5 x8M h6 wbM h7 bkM h8 cc0_scratch3 cc0_scratch4 cc0_scratch5 cc0_scratch6 cc0_scratch7 c hh v145) (fun _ => iprop(rdys c 13 ∗ OW c (Ordy c 13 + O))) := by
  simp only [k0_part2_eq_skeleton]; unfold k0_part2_skel
  simp only [semSignalWord, semWaitWord, Prog.lift, Prog.bind_op, Prog.bind_ret, Prog.pure_eq_ret]
  refine rdy_then m c K 6 (by omega) (Fin.ext (k0_dev8_eq)) (k0_off1_eq c) (by decide) ?_
  refine rdy_then m c K 7 (by omega) (Fin.ext (k0_dev9_eq)) (k0_off1_eq c) (by decide) ?_
  refine rdy_then m c K 8 (by omega) (Fin.ext (k0_dev10_eq)) (k0_off1_eq c) (by decide) ?_
  refine rdy_then m c K 9 (by omega) (Fin.ext (k0_dev11_eq)) (k0_off1_eq c) (by decide) ?_
  refine rdy_then m c K 10 (by omega) (Fin.ext (k0_dev12_eq)) (k0_off1_eq c) (by decide) ?_
  refine rdy_then m c K 11 (by omega) (Fin.ext (k0_dev13_eq)) (k0_off1_eq c) (by decide) ?_
  refine rdy_then m c K 12 (by omega) (Fin.ext (k0_dev14_eq)) (k0_off1_eq c) (by decide) ?_
  exact ret_then m c K

set_option maxHeartbeats 1600000 in
/-- Part 3 of the body sends the ready signals 13 to 19. -/
theorem wp_part3 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond2 i = 1#1} {c13_i32 : BitVec 32} {O : CellTallies nD τ sig Unit} :
    iprop(ctx m K ∗ rdys c 13 ∗ OW c (Ordy c 13 + O)) ⊢ WP c (k0_part3 i a1 h1 wM h2 a3 h3 a4 h4 outM h5 x8M h6 wbM h7 bkM h8 cc0_scratch3 cc0_scratch4 cc0_scratch5 cc0_scratch6 cc0_scratch7 c hh c13_i32) (fun _ => iprop(rdys c 20 ∗ OW c (Ordy c 20 + O))) := by
  simp only [k0_part3_eq_skeleton]; unfold k0_part3_skel
  simp only [semSignalWord, semWaitWord, Prog.lift, Prog.bind_op, Prog.bind_ret, Prog.pure_eq_ret]
  refine rdy_then m c K 13 (by omega) (Fin.ext (k0_dev15_eq)) (k0_off1_eq c) (by decide) ?_
  refine rdy_then m c K 14 (by omega) (Fin.ext (k0_dev16_eq)) (k0_off1_eq c) (by decide) ?_
  refine rdy_then m c K 15 (by omega) (Fin.ext (k0_dev17_eq)) (k0_off1_eq c) (by decide) ?_
  refine rdy_then m c K 16 (by omega) (Fin.ext (k0_dev18_eq)) (k0_off1_eq c) (by decide) ?_
  refine rdy_then m c K 17 (by omega) (Fin.ext (k0_dev19_eq)) (k0_off1_eq c) (by decide) ?_
  refine rdy_then m c K 18 (by omega) (Fin.ext (k0_dev20_eq)) (k0_off1_eq c) (by decide) ?_
  refine rdy_then m c K 19 (by omega) (Fin.ext (k0_dev21_eq)) (k0_off1_eq c) (by decide) ?_
  exact ret_then m c K

set_option maxHeartbeats 1600000 in
/-- Part 4 of the body sends the ready signals 20 to 25. -/
theorem wp_part4 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond2 i = 1#1}  {O : CellTallies nD τ sig Unit} :
    iprop(ctx m K ∗ rdys c 20 ∗ OW c (Ordy c 20 + O)) ⊢ WP c (k0_part4 i a1 h1 wM h2 a3 h3 a4 h4 outM h5 x8M h6 wbM h7 bkM h8 cc0_scratch3 cc0_scratch4 cc0_scratch5 cc0_scratch6 cc0_scratch7 c hh) (fun _ => iprop(rdys c 26 ∗ OW c (Ordy c 26 + O))) := by
  simp only [k0_part4_eq_skeleton]; unfold k0_part4_skel
  simp only [semSignalWord, semWaitWord, Prog.lift, Prog.bind_op, Prog.bind_ret, Prog.pure_eq_ret]
  refine rdy_then m c K 20 (by omega) (Fin.ext (k0_dev22_eq)) (k0_off1_eq c) (by decide) ?_
  refine rdy_then m c K 21 (by omega) (Fin.ext (k0_dev23_eq)) (k0_off1_eq c) (by decide) ?_
  refine rdy_then m c K 22 (by omega) (Fin.ext (k0_dev24_eq)) (k0_off1_eq c) (by decide) ?_
  refine rdy_then m c K 23 (by omega) (Fin.ext (k0_dev25_eq)) (k0_off1_eq c) (by decide) ?_
  refine rdy_then m c K 24 (by omega) (Fin.ext (k0_dev26_eq)) (k0_off1_eq c) (by decide) ?_
  refine rdy_then m c K 25 (by omega) (Fin.ext (k0_dev27_eq)) (k0_off1_eq c) (by decide) ?_
  exact ret_then m c K

set_option maxHeartbeats 1600000 in
/-- Part 5 of the body sends the ready signals 26 to 31. -/
theorem wp_part5 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond2 i = 1#1} {v21 : BitVec 32} {v225 : BitVec 32} {O : CellTallies nD τ sig Unit} :
    iprop(ctx m K ∗ rdys c 26 ∗ OW c (Ordy c 26 + O)) ⊢ WP c (k0_part5 i a1 h1 wM h2 a3 h3 a4 h4 outM h5 x8M h6 wbM h7 bkM h8 cc0_scratch3 cc0_scratch4 cc0_scratch5 cc0_scratch6 cc0_scratch7 c v21 hh v225) (fun _ => iprop(rdys c 32 ∗ OW c (Ordy c 32 + O))) := by
  simp only [k0_part5_eq_skeleton]; unfold k0_part5_skel
  simp only [semSignalWord, semWaitWord, Prog.lift, Prog.bind_op, Prog.bind_ret, Prog.pure_eq_ret]
  refine rdy_then m c K 26 (by omega) (Fin.ext (k0_dev28_eq)) (k0_off1_eq c) (by decide) ?_
  refine rdy_then m c K 27 (by omega) (Fin.ext (k0_dev29_eq)) (k0_off1_eq c) (by decide) ?_
  refine rdy_then m c K 28 (by omega) (Fin.ext (k0_dev30_eq)) (k0_off1_eq c) (by decide) ?_
  refine rdy_then m c K 29 (by omega) (Fin.ext (k0_dev31_eq)) (k0_off1_eq c) (by decide) ?_
  refine rdy_then m c K 30 (by omega) (Fin.ext (k0_dev32_eq)) (k0_off1_eq c) (by decide) ?_
  refine rdy_then m c K 31 (by omega) (Fin.ext (k0_dev33_eq)) (k0_off1_eq c) (by decide) ?_
  exact ret_then m c K

/-! ## The last waits, part by part -/
set_option maxHeartbeats 1600000 in
/-- Part 6 of the body does the device's own waits and the waits for the next device. -/
theorem wp_part6 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ own0 m c ∗ fin m c 1 1) ⊢ WP c (k0_part6 i a1 h1 wM h2 a3 h3 a4 h4 outM h5 x8M h6 wbM h7 bkM h8 cc0_scratch3 cc0_scratch4 cc0_scratch5 cc0_scratch6 cc0_scratch7 c v2 hh) (fun _ => iprop(own1 m c ∗ fin m c 2 2)) := by
  simp only [k0_part6_eq_skeleton]; unfold k0_part6_skel
  simp only [semSignalWord, semWaitWord, Prog.lift, Prog.bind_op, Prog.bind_ret, Prog.pure_eq_ret]
  unfold own0
  iintro ⟨#Hc, ⟨Hrd, HF⟩, Hf⟩
  ihave Hf' := (Entails.of_eq (fin_eq m c 1 1)) $$ Hf
  icases Hf' with ⟨H1, H2, H3, H4, HO⟩
  iapply (wp_own_wait m c K (k0_off36_eq c) (by decide)) $$ [Hrd HO]
  · isplitr; · iexact Hc
    isplitl [Hrd]; · iexact Hrd
    iexact HO
  iintro ⟨Hz, HO⟩
  iapply (wp_local_wait c) $$ [HF HO]
  · isplitl [HF]; · iexact HF
    iexact HO
  iintro ⟨HD, Hv, HO⟩
  ihave H : fin m c 1 1 $$ [H1 H2 H3 H4 HO]
  · iapply (Entails.of_eq (fin_eq m c 1 1).symm)
    isplitl [H1]; · iexact H1
    isplitl [H2]; · iexact H2
    isplitl [H3]; · iexact H3
    isplitl [H4]; · iexact H4
    iexact HO
  iapply (wp_rwait m c K 1 1 (by omega) (by omega) (off39_t c 0)) $$ [H]
  · isplitr; · iexact Hc
    iexact H
  iintro H
  iapply (wp_swait m c K 2 1 (by omega) (by omega) (off39_t c 0) (off41_t c 0)) $$ [H]
  · isplitr; · iexact Hc
    iexact H
  iintro H
  rw [WP_ret]; imodintro
  isplitl [Hz HD Hv]
  · unfold own1
    isplitl [Hz]; · iexact Hz
    isplitl [HD]; · iexact HD
    iexact Hv
  iexact H

set_option maxHeartbeats 1600000 in
/-- Part 7 of the body does the receive waits 2 and 3 and the send waits 2 and 3. -/
theorem wp_part7 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 2 2) ⊢ WP c (k0_part7 i a1 h1 wM h2 a3 h3 a4 h4 outM h5 x8M h6 wbM h7 bkM h8 cc0_scratch3 cc0_scratch4 cc0_scratch5 cc0_scratch6 cc0_scratch7 c v2 hh) (fun _ => iprop(fin m c 4 4)) := by
  simp only [k0_part7_eq_skeleton]; unfold k0_part7_skel
  simp only [semSignalWord, semWaitWord, Prog.lift, Prog.bind_op, Prog.bind_ret, Prog.pure_eq_ret]
  refine rwait_then m c K 2 2 (by omega) (by omega) (off39_t c 1) ?_
  refine swait_then m c K 3 2 (by omega) (by omega) (off39_t c 1) (off41_t c 1) ?_
  refine rwait_then m c K 3 3 (by omega) (by omega) (off39_t c 2) ?_
  refine swait_then m c K 4 3 (by omega) (by omega) (off39_t c 2) (off41_t c 2) ?_
  exact ret_then m c K

set_option maxHeartbeats 1600000 in
/-- Part 8 of the body does the receive waits 4 and 5 and the send waits 4 and 5. -/
theorem wp_part8 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v176 : BitVec 32} {c0_i32_104 : BitVec 32} :
    iprop(ctx m K ∗ fin m c 4 4) ⊢ WP c (k0_part8 i a1 h1 wM h2 a3 h3 a4 h4 outM h5 x8M h6 wbM h7 bkM h8 cc0_scratch3 cc0_scratch4 cc0_scratch5 cc0_scratch6 cc0_scratch7 c v2 hh v176 c0_i32_104) (fun _ => iprop(fin m c 6 6)) := by
  simp only [k0_part8_eq_skeleton]; unfold k0_part8_skel
  simp only [semSignalWord, semWaitWord, Prog.lift, Prog.bind_op, Prog.bind_ret, Prog.pure_eq_ret]
  refine rwait_then m c K 4 4 (by omega) (by omega) (off39_t c 3) ?_
  refine swait_then m c K 5 4 (by omega) (by omega) (off39_t c 3) (off41_t c 3) ?_
  refine rwait_then m c K 5 5 (by omega) (by omega) (off39_t c 4) ?_
  refine swait_then m c K 6 5 (by omega) (by omega) (off39_t c 4) (off41_t c 4) ?_
  exact ret_then m c K

set_option maxHeartbeats 1600000 in
/-- Part 9 of the body does the receive waits 6 and 7 and the send waits 6 and 7. -/
theorem wp_part9 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v206 : BitVec 32} :
    iprop(ctx m K ∗ fin m c 6 6) ⊢ WP c (k0_part9 i a1 h1 wM h2 a3 h3 a4 h4 outM h5 x8M h6 wbM h7 bkM h8 cc0_scratch3 cc0_scratch4 cc0_scratch5 cc0_scratch6 cc0_scratch7 c v2 hh v206) (fun _ => iprop(fin m c 8 8)) := by
  simp only [k0_part9_eq_skeleton]; unfold k0_part9_skel
  simp only [semSignalWord, semWaitWord, Prog.lift, Prog.bind_op, Prog.bind_ret, Prog.pure_eq_ret]
  refine rwait_then m c K 6 6 (by omega) (by omega) (off39_t c 5) ?_
  refine swait_then m c K 7 6 (by omega) (by omega) (off39_t c 5) (off41_t c 5) ?_
  refine rwait_then m c K 7 7 (by omega) (by omega) (off39_t c 6) ?_
  refine swait_then m c K 8 7 (by omega) (by omega) (off39_t c 6) (off41_t c 6) ?_
  exact ret_then m c K

set_option maxHeartbeats 1600000 in
/-- Part 10 of the body does the receive waits 8 and 9 and the send waits 8. -/
theorem wp_part10 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v237 : BitVec 32} :
    iprop(ctx m K ∗ fin m c 8 8) ⊢ WP c (k0_part10 i a1 h1 wM h2 a3 h3 a4 h4 outM h5 x8M h6 wbM h7 bkM h8 cc0_scratch3 cc0_scratch4 cc0_scratch5 cc0_scratch6 cc0_scratch7 c v2 hh v237) (fun _ => iprop(fin m c 10 9)) := by
  simp only [k0_part10_eq_skeleton]; unfold k0_part10_skel
  simp only [semSignalWord, semWaitWord, Prog.lift, Prog.bind_op, Prog.bind_ret, Prog.pure_eq_ret]
  refine rwait_then m c K 8 8 (by omega) (by omega) (off39_t c 7) ?_
  refine swait_then m c K 9 8 (by omega) (by omega) (off39_t c 7) (off41_t c 7) ?_
  refine rwait_then m c K 9 9 (by omega) (by omega) (off39_t c 8) ?_
  exact ret_then m c K

set_option maxHeartbeats 1600000 in
/-- Part 11 of the body does the receive waits 10 and 11 and the send waits 9 and 10. -/
theorem wp_part11 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 10 9) ⊢ WP c (k0_part11 i a1 h1 wM h2 a3 h3 a4 h4 outM h5 x8M h6 wbM h7 bkM h8 cc0_scratch3 cc0_scratch4 cc0_scratch5 cc0_scratch6 cc0_scratch7 c v2 hh) (fun _ => iprop(fin m c 12 11)) := by
  simp only [k0_part11_eq_skeleton]; unfold k0_part11_skel
  simp only [semSignalWord, semWaitWord, Prog.lift, Prog.bind_op, Prog.bind_ret, Prog.pure_eq_ret]
  refine swait_then m c K 10 9 (by omega) (by omega) (off39_t c 8) (off41_t c 8) ?_
  refine rwait_then m c K 10 10 (by omega) (by omega) (off39_t c 9) ?_
  refine swait_then m c K 11 10 (by omega) (by omega) (off39_t c 9) (off41_t c 9) ?_
  refine rwait_then m c K 11 11 (by omega) (by omega) (off39_t c 10) ?_
  exact ret_then m c K

set_option maxHeartbeats 1600000 in
/-- Part 12 of the body does the receive waits 12 and 13 and the send waits 11 and 12. -/
theorem wp_part12 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 12 11) ⊢ WP c (k0_part12 i a1 h1 wM h2 a3 h3 a4 h4 outM h5 x8M h6 wbM h7 bkM h8 cc0_scratch3 cc0_scratch4 cc0_scratch5 cc0_scratch6 cc0_scratch7 c v2 hh) (fun _ => iprop(fin m c 14 13)) := by
  simp only [k0_part12_eq_skeleton]; unfold k0_part12_skel
  simp only [semSignalWord, semWaitWord, Prog.lift, Prog.bind_op, Prog.bind_ret, Prog.pure_eq_ret]
  refine swait_then m c K 12 11 (by omega) (by omega) (off39_t c 10) (off41_t c 10) ?_
  refine rwait_then m c K 12 12 (by omega) (by omega) (off39_t c 11) ?_
  refine swait_then m c K 13 12 (by omega) (by omega) (off39_t c 11) (off41_t c 11) ?_
  refine rwait_then m c K 13 13 (by omega) (by omega) (off39_t c 12) ?_
  exact ret_then m c K

set_option maxHeartbeats 1600000 in
/-- Part 13 of the body does the receive waits 14 and the send waits 13 and 14. -/
theorem wp_part13 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 14 13) ⊢ WP c (k0_part13 i a1 h1 wM h2 a3 h3 a4 h4 outM h5 x8M h6 wbM h7 bkM h8 cc0_scratch3 cc0_scratch4 cc0_scratch5 cc0_scratch6 cc0_scratch7 c v2 hh) (fun _ => iprop(fin m c 15 15)) := by
  simp only [k0_part13_eq_skeleton]; unfold k0_part13_skel
  simp only [semSignalWord, semWaitWord, Prog.lift, Prog.bind_op, Prog.bind_ret, Prog.pure_eq_ret]
  refine swait_then m c K 14 13 (by omega) (by omega) (off39_t c 12) (off41_t c 12) ?_
  refine rwait_then m c K 14 14 (by omega) (by omega) (off39_t c 13) ?_
  refine swait_then m c K 15 14 (by omega) (by omega) (off39_t c 13) (off41_t c 13) ?_
  exact ret_then m c K

set_option maxHeartbeats 1600000 in
/-- Part 14 of the body does the receive waits 15 and 16 and the send waits 15 and 16. -/
theorem wp_part14 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 15 15) ⊢ WP c (k0_part14 i a1 h1 wM h2 a3 h3 a4 h4 outM h5 x8M h6 wbM h7 bkM h8 cc0_scratch3 cc0_scratch4 cc0_scratch5 cc0_scratch6 cc0_scratch7 c v2 hh) (fun _ => iprop(fin m c 17 17)) := by
  simp only [k0_part14_eq_skeleton]; unfold k0_part14_skel
  simp only [semSignalWord, semWaitWord, Prog.lift, Prog.bind_op, Prog.bind_ret, Prog.pure_eq_ret]
  refine rwait_then m c K 15 15 (by omega) (by omega) (off39_t c 14) ?_
  refine swait_then m c K 16 15 (by omega) (by omega) (off39_t c 14) (off41_t c 14) ?_
  refine rwait_then m c K 16 16 (by omega) (by omega) (off39_t c 15) ?_
  refine swait_then m c K 17 16 (by omega) (by omega) (off39_t c 15) (off41_t c 15) ?_
  exact ret_then m c K

set_option maxHeartbeats 1600000 in
/-- Part 15 of the body does the receive waits 17 and 18 and the send waits 17 and 18. -/
theorem wp_part15 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 17 17) ⊢ WP c (k0_part15 i a1 h1 wM h2 a3 h3 a4 h4 outM h5 x8M h6 wbM h7 bkM h8 cc0_scratch3 cc0_scratch4 cc0_scratch5 cc0_scratch6 cc0_scratch7 c v2 hh) (fun _ => iprop(fin m c 19 19)) := by
  simp only [k0_part15_eq_skeleton]; unfold k0_part15_skel
  simp only [semSignalWord, semWaitWord, Prog.lift, Prog.bind_op, Prog.bind_ret, Prog.pure_eq_ret]
  refine rwait_then m c K 17 17 (by omega) (by omega) (off39_t c 16) ?_
  refine swait_then m c K 18 17 (by omega) (by omega) (off39_t c 16) (off41_t c 16) ?_
  refine rwait_then m c K 18 18 (by omega) (by omega) (off39_t c 17) ?_
  refine swait_then m c K 19 18 (by omega) (by omega) (off39_t c 17) (off41_t c 17) ?_
  exact ret_then m c K

set_option maxHeartbeats 1600000 in
/-- Part 16 of the body does the receive waits 19 and 20 and the send waits 19 and 20. -/
theorem wp_part16 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v416 : BitVec 32} {c0_i32_302 : BitVec 32} :
    iprop(ctx m K ∗ fin m c 19 19) ⊢ WP c (k0_part16 i a1 h1 wM h2 a3 h3 a4 h4 outM h5 x8M h6 wbM h7 bkM h8 cc0_scratch3 cc0_scratch4 cc0_scratch5 cc0_scratch6 cc0_scratch7 c v2 hh v416 c0_i32_302) (fun _ => iprop(fin m c 21 21)) := by
  simp only [k0_part16_eq_skeleton]; unfold k0_part16_skel
  simp only [semSignalWord, semWaitWord, Prog.lift, Prog.bind_op, Prog.bind_ret, Prog.pure_eq_ret]
  refine rwait_then m c K 19 19 (by omega) (by omega) (off39_t c 18) ?_
  refine swait_then m c K 20 19 (by omega) (by omega) (off39_t c 18) (off41_t c 18) ?_
  refine rwait_then m c K 20 20 (by omega) (by omega) (off39_t c 19) ?_
  refine swait_then m c K 21 20 (by omega) (by omega) (off39_t c 19) (off41_t c 19) ?_
  exact ret_then m c K

set_option maxHeartbeats 1600000 in
/-- Part 17 of the body does the receive waits 21 and 22 and the send waits 21 and 22. -/
theorem wp_part17 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v446 : BitVec 32} :
    iprop(ctx m K ∗ fin m c 21 21) ⊢ WP c (k0_part17 i a1 h1 wM h2 a3 h3 a4 h4 outM h5 x8M h6 wbM h7 bkM h8 cc0_scratch3 cc0_scratch4 cc0_scratch5 cc0_scratch6 cc0_scratch7 c v2 hh v446) (fun _ => iprop(fin m c 23 23)) := by
  simp only [k0_part17_eq_skeleton]; unfold k0_part17_skel
  simp only [semSignalWord, semWaitWord, Prog.lift, Prog.bind_op, Prog.bind_ret, Prog.pure_eq_ret]
  refine rwait_then m c K 21 21 (by omega) (by omega) (off39_t c 20) ?_
  refine swait_then m c K 22 21 (by omega) (by omega) (off39_t c 20) (off41_t c 20) ?_
  refine rwait_then m c K 22 22 (by omega) (by omega) (off39_t c 21) ?_
  refine swait_then m c K 23 22 (by omega) (by omega) (off39_t c 21) (off41_t c 21) ?_
  exact ret_then m c K

set_option maxHeartbeats 1600000 in
/-- Part 18 of the body does the receive waits 23 and 24 and the send waits 23. -/
theorem wp_part18 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} {v477 : BitVec 32} :
    iprop(ctx m K ∗ fin m c 23 23) ⊢ WP c (k0_part18 i a1 h1 wM h2 a3 h3 a4 h4 outM h5 x8M h6 wbM h7 bkM h8 cc0_scratch3 cc0_scratch4 cc0_scratch5 cc0_scratch6 cc0_scratch7 c v2 hh v477) (fun _ => iprop(fin m c 25 24)) := by
  simp only [k0_part18_eq_skeleton]; unfold k0_part18_skel
  simp only [semSignalWord, semWaitWord, Prog.lift, Prog.bind_op, Prog.bind_ret, Prog.pure_eq_ret]
  refine rwait_then m c K 23 23 (by omega) (by omega) (off39_t c 22) ?_
  refine swait_then m c K 24 23 (by omega) (by omega) (off39_t c 22) (off41_t c 22) ?_
  refine rwait_then m c K 24 24 (by omega) (by omega) (off39_t c 23) ?_
  exact ret_then m c K

set_option maxHeartbeats 1600000 in
/-- Part 19 of the body does the receive waits 25 and 26 and the send waits 24 and 25. -/
theorem wp_part19 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 25 24) ⊢ WP c (k0_part19 i a1 h1 wM h2 a3 h3 a4 h4 outM h5 x8M h6 wbM h7 bkM h8 cc0_scratch3 cc0_scratch4 cc0_scratch5 cc0_scratch6 cc0_scratch7 c v2 hh) (fun _ => iprop(fin m c 27 26)) := by
  simp only [k0_part19_eq_skeleton]; unfold k0_part19_skel
  simp only [semSignalWord, semWaitWord, Prog.lift, Prog.bind_op, Prog.bind_ret, Prog.pure_eq_ret]
  refine swait_then m c K 25 24 (by omega) (by omega) (off39_t c 23) (off41_t c 23) ?_
  refine rwait_then m c K 25 25 (by omega) (by omega) (off39_t c 24) ?_
  refine swait_then m c K 26 25 (by omega) (by omega) (off39_t c 24) (off41_t c 24) ?_
  refine rwait_then m c K 26 26 (by omega) (by omega) (off39_t c 25) ?_
  exact ret_then m c K

set_option maxHeartbeats 1600000 in
/-- Part 20 of the body does the receive waits 27 and 28 and the send waits 26 and 27. -/
theorem wp_part20 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 27 26) ⊢ WP c (k0_part20 i a1 h1 wM h2 a3 h3 a4 h4 outM h5 x8M h6 wbM h7 bkM h8 cc0_scratch3 cc0_scratch4 cc0_scratch5 cc0_scratch6 cc0_scratch7 c v2 hh) (fun _ => iprop(fin m c 29 28)) := by
  simp only [k0_part20_eq_skeleton]; unfold k0_part20_skel
  simp only [semSignalWord, semWaitWord, Prog.lift, Prog.bind_op, Prog.bind_ret, Prog.pure_eq_ret]
  refine swait_then m c K 27 26 (by omega) (by omega) (off39_t c 25) (off41_t c 25) ?_
  refine rwait_then m c K 27 27 (by omega) (by omega) (off39_t c 26) ?_
  refine swait_then m c K 28 27 (by omega) (by omega) (off39_t c 26) (off41_t c 26) ?_
  refine rwait_then m c K 28 28 (by omega) (by omega) (off39_t c 27) ?_
  exact ret_then m c K

set_option maxHeartbeats 1600000 in
/-- Part 21 of the body does the receive waits 29 and the send waits 28 and 29. -/
theorem wp_part21 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ fin m c 29 28) ⊢ WP c (k0_part21 i a1 h1 wM h2 a3 h3 a4 h4 outM h5 x8M h6 wbM h7 bkM h8 cc0_scratch3 cc0_scratch4 cc0_scratch5 cc0_scratch6 cc0_scratch7 c v2 hh) (fun _ => iprop(fin m c 30 30)) := by
  simp only [k0_part21_eq_skeleton]; unfold k0_part21_skel
  simp only [semSignalWord, semWaitWord, Prog.lift, Prog.bind_op, Prog.bind_ret, Prog.pure_eq_ret]
  refine swait_then m c K 29 28 (by omega) (by omega) (off39_t c 27) (off41_t c 27) ?_
  refine rwait_then m c K 29 29 (by omega) (by omega) (off39_t c 28) ?_
  refine swait_then m c K 30 29 (by omega) (by omega) (off39_t c 28) (off41_t c 28) ?_
  exact ret_then m c K

set_option maxHeartbeats 1600000 in
/-- Part 22 of the body does all the last waits but send wait 31. -/
theorem wp_part22 (c : Dev nD) (K : Dev nD × Kx → ℕ) {i : grid0.Coords} {a1 : Memref sig .tc .vmem S128x4096 .f32} {h1 : a1.IsWhole} {h2 : wM.IsWhole} {a3 : Memref sig .tc .smem S1 .f32} {h3 : a3.IsWhole} {a4 : Memref sig .tc .smem S1 .f32} {h4 : a4.IsWhole} {h5 : outM.IsWhole} {h6 : x8M.IsWhole} {h7 : wbM.IsWhole} {h8 : bkM.IsWhole} {hh : k0_cond12 i = 1#1} {v2 : BitVec 32} :
    iprop(ctx m K ∗ own0 m c ∗ fin m c 1 1) ⊢ WP c (k0_part22 i a1 h1 wM h2 a3 h3 a4 h4 outM h5 x8M h6 wbM h7 bkM h8 cc0_scratch3 cc0_scratch4 cc0_scratch5 cc0_scratch6 cc0_scratch7 c v2 hh) (fun _ => iprop(own1 m c ∗ fin m c 32 31)) := by
  simp only [k0_part22_eq_skeleton]; unfold k0_part22_skel
  simp only [semSignalWord, semWaitWord, Prog.lift, Prog.bind_op, Prog.bind_ret, Prog.pure_eq_ret]
  refine first_then m c K (wp_part6 m c K) fun _ => ?_
  refine part_then m c K (wp_part7 m c K) fun _ => ?_
  refine part_then m c K (wp_part8 m c K) fun _ => ?_
  refine part_then m c K (wp_part9 m c K) fun _ => ?_
  refine part_then m c K (wp_part10 m c K) fun _ => ?_
  refine part_then m c K (wp_part11 m c K) fun _ => ?_
  refine part_then m c K (wp_part12 m c K) fun _ => ?_
  refine part_then m c K (wp_part13 m c K) fun _ => ?_
  refine part_then m c K (wp_part14 m c K) fun _ => ?_
  refine part_then m c K (wp_part15 m c K) fun _ => ?_
  refine part_then m c K (wp_part16 m c K) fun _ => ?_
  refine part_then m c K (wp_part17 m c K) fun _ => ?_
  refine part_then m c K (wp_part18 m c K) fun _ => ?_
  refine part_then m c K (wp_part19 m c K) fun _ => ?_
  refine part_then m c K (wp_part20 m c K) fun _ => ?_
  refine part_then m c K (wp_part21 m c K) fun _ => ?_
  refine rwait_then m c K 30 30 (by omega) (by omega) (off39_t c 29) ?_
  refine swait_then m c K 31 30 (by omega) (by omega) (off39_t c 29) (off41_t c 29) ?_
  refine rwait_then m c K 31 31 (by omega) (by omega) (off39_t c 30) ?_
  exact ret_then m c K

end Cert.K

end
-- ==== Proof.Steps3.lean ====
module

public import proofs.«01_k».proof.Proof.Parts

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The steps of a grid point -/

/-- What sending slab `d` takes besides the slab: on another device a token and a credit, on the device itself its own rows. -/
def xtra (c d : Dev nD) : sProp 𝕄 :=
  if d = c then iprop((∃ f, rowP c c f) ∗ semVal ((c : Thread nD τ), .dma locS) 0) else sendTok c d
/-- The device's own slab on its way to its own rows. -/
def locF (c : Dev nD) : sProp 𝕄 :=
  Flight EC (c : Thread nD τ) (.dma locS) () N iprop(rowP c c (outv m c) ∗ ∃ f, slabP c c f)
/-- After the local copy was started, if there is one. -/
def midP (c d : Dev nD) : sProp 𝕄 := if d = c then locF m c else iprop(slabOk m c d ∗ sendTok c d)
/-- After the slab was sent. -/
def doneP (c d : Dev nD) : sProp 𝕄 := if d = c then locF m c else iprop(cred (tallyAt (sndC c d) () N) ∗ semVal (rdyC c d) 0)

/-- The branch that copies the device's own slab: it starts the copy if the slab is the device's own and else does nothing. -/
theorem wp_loc (c d : Dev nD) {cond : BitVec 1} (hcond : cond = if d = c then 1#1 else 0#1)
    {offr : Fin 2 → ℕ} {offs : Fin 3 → ℕ} (hr : offr = ![128 * d.val, 0]) (hs : offs = ![d.val, 0, 0])
    {i1 : cond = 1#1 → ∀ a, offr a + S128x64.size a ≤ S4096x64.size a} {i2 : cond = 1#1 → ∀ a, offs a + S1x128x64.size a ≤ S32x128x64.size a}
    {hsrc : ∀ h : cond = 1#1, _} {hdst : ∀ h : cond = 1#1, _} {hsem : ∀ h : cond = 1#1, _}
    {α : Type} {k : Prog (TpuEff nD τ sig (Elt F) Λ₀ .tc) α} {Q : α → sProp 𝕄} :
    iprop(slabOk m c d ∗ xtra c d) ⊢ iprop((midP m c d -∗ WP c k Q) -∗ WP c
      (if h : cond = 1#1 then
        .op (.enqueueDma ((bkM.slice (Rect.unit (s := S32x128x64) offs S1x128x64.size (i2 h)) (fun _ => rfl)).squeeze S128x64 squeezes_S1x128x64_S128x64)
          (.here (outM.slice (Rect.unit (s := S4096x64) offr S128x64.size (i1 h)) (fun _ => rfl)))
          (.dma (cc0_scratch5 : DmaSems sig S_).sem) (hsrc h) (hdst h) (hsem h)) fun _ => k
      else k) Q) := by
  unfold xtra midP locF
  by_cases h : d = c
  · have hc : cond = 1#1 := by rw [hcond, if_pos h]
    rw [dif_pos hc, if_pos h, if_pos h]
    subst h
    iintro ⟨Hs, Hr, Hv⟩ Hk
    iapply (wp_local m d hr hs) $$ [Hs Hr Hv]
    · isplitl [Hs]; · iexact Hs
      isplitl [Hr]; · iexact Hr
      iexact Hv
    iexact Hk
  · have hc : ¬ cond = 1#1 := by rw [hcond, if_neg h]; decide
    rw [dif_neg hc, if_neg h, if_neg h]
    iintro H Hk
    iapply Hk; iexact H

/-- The branch that sends the slab of turn `n`: it sends unless the slab is the device's own. -/
theorem wp_rem (c : Dev nD) (K : Dev nD × Kx → ℕ) (n : ℕ) (hn : n < 32) {cond : BitVec 1} (hcond : cond = if tgt c n = c then 0#1 else 1#1)
    {offd offc : Fin 1 → ℕ} {offr : Fin 2 → ℕ} {offs : Fin 3 → ℕ} (hd : offd = ![(tgt c n).val]) (hc : offc = ![c.val])
    (hr : offr = ![128 * c.val, 0]) (hs : offs = ![(tgt c n).val, 0, 0]) {dst : ℕ} (hdst : dst = (tgt c n).val) {am : ℤ} (ha : am = ((1 : ℕ) : ℤ))
    {i1 i1' : cond = 1#1 → ∀ a, offd a + S1.size a ≤ S32.size a} {i2 : cond = 1#1 → ∀ a, offc a + S1.size a ≤ S32.size a}
    {i3 : cond = 1#1 → ∀ a, offr a + S128x64.size a ≤ S4096x64.size a} {i4 : cond = 1#1 → ∀ a, offs a + S1x128x64.size a ≤ S32x128x64.size a}
    {idst : cond = 1#1 → dst < nD}
    {hsc : ∀ h : cond = 1#1, _} {hsrc : ∀ h : cond = 1#1, _} {hds : ∀ h : cond = 1#1, _} {hsem : ∀ h : cond = 1#1, _}
    {α : Type} {k : Prog (TpuEff nD τ sig (Elt F) Λ₀ .tc) α} {Q : α → sProp 𝕄} :
    iprop(ctx m K ∗ midP m c (tgt c n) ∗ OW c (Orcv c n)) ⊢ iprop(((doneP m c (tgt c n) ∗ OW c (Orcv c (n + 1))) -∗ WP c k Q) -∗ WP c
      (if h : cond = 1#1 then
        .op (.semWait (((cc0_scratch7 : Sems sig S32).slice (Rect.unit (s := S32) offd S1.size (i1 h))).squeeze S_ squeezes_S1_S_).sem am) fun _ =>
        .op (.enqueueDma ((bkM.slice (Rect.unit (s := S32x128x64) offs S1x128x64.size (i4 h)) (fun _ => rfl)).squeeze S128x64 squeezes_S1x128x64_S128x64)
          (.remote (Dev.tc (⟨dst, idst h⟩ : Dev nD)) (outM.slice (Rect.unit (s := S4096x64) offr S128x64.size (i3 h)) (fun _ => rfl))
            (.dma (((cc0_scratch3 : DmaSems sig S32).slice (Rect.unit (s := S32) offd S1.size (i1' h))).squeeze S_ squeezes_S1_S_).sem) (hsc h))
          (.dma (((cc0_scratch4 : DmaSems sig S32).slice (Rect.unit (s := S32) offc S1.size (i2 h))).squeeze S_ squeezes_S1_S_).sem) (hsrc h) (hds h) (hsem h)) fun _ => k
      else k) Q) := by
  unfold midP doneP
  by_cases h : tgt c n = c
  · have hc' : ¬ cond = 1#1 := by rw [hcond, if_pos h]; decide
    rw [dif_neg hc', if_pos h, if_pos h, Orcv_skip c hn h]
    iintro ⟨#Hc, Hm, HO⟩ Hk
    iapply Hk
    isplitl [Hm]; · iexact Hm
    iexact HO
  · have hc' : cond = 1#1 := by rw [hcond, if_neg h]
    rw [dif_pos hc', if_neg h, if_neg h, Orcv_peel c hn h]
    iintro ⟨#Hc, ⟨Hs, Ht⟩, HO⟩ Hk
    iapply (wp_remote m c (tgt c n) h K (O := Orcv c (n + 1)) (by rw [← Orcv_peel c hn h]; exact above_Orcv c n (by decide)) hd hc hr hs (Fin.ext hdst) ha) $$ [Hs Ht HO]
    · isplitr; · iexact Hc
      isplitl [Hs]; · iexact Hs
      isplitl [Ht]; · iexact Ht
      iexact HO
    iintro ⟨Hcr, Hv, HO⟩
    iapply Hk
    isplitl [Hcr Hv]
    · isplitl [Hcr]; · iexact Hcr
      iexact Hv
    iexact HO

/-! ## Loads -/

/-- The cast-down block's buffer. -/
def x8P (c : Dev nD) (f : Vec F S128x4096 .fp8e5m2) : sProp 𝕄 :=
  ((c : Thread nD τ).loc cc0_scratch0) ↦{fullShare} (f : Buf (Elt F) ((c : Thread nD τ).loc cc0_scratch0))
/-- The three staging buffers. -/
def stg0P (c : Dev nD) (f : Vec F S128x4096 .f32) : sProp 𝕄 :=
  ((c : Thread nD τ).loc cc0_stg0_0) ↦{fullShare} (f : Buf (Elt F) ((c : Thread nD τ).loc cc0_stg0_0))
def stg1P (c : Dev nD) (f : Vec F S1 .f32) : sProp 𝕄 :=
  ((c : Thread nD τ).loc cc0_stg1_0) ↦{fullShare} (f : Buf (Elt F) ((c : Thread nD τ).loc cc0_stg1_0))
def stg2P (c : Dev nD) (f : Vec F S1 .f32) : sProp 𝕄 :=
  ((c : Thread nD τ).loc cc0_stg2_0) ↦{fullShare} (f : Buf (Elt F) ((c : Thread nD τ).loc cc0_stg2_0))

abbrev s0M : Memref sig .tc .vmem S128x4096 .f32 := Memref.whole cc0_stg0_0
abbrev s1M : Memref sig .tc .smem S1 .f32 := Memref.whole cc0_stg1_0
abbrev s2M : Memref sig .tc .smem S1 .f32 := Memref.whole cc0_stg2_0

/-- The offset of two zeros is zero everywhere. -/
theorem zero2 : (![0, 0] : Fin 2 → ℕ) = fun _ => 0 := by funext a; fin_cases a <;> rfl

/-- A load of the rounded rows reads what the buffer holds. -/
theorem wp_x8_load (c : Dev nD) (f : Vec F S128x4096 .fp8e5m2) {i1 : ∀ a, (![0, 0] : Fin 2 → ℕ) a + S128x4096.size a ≤ S128x4096.size a} {hl}
    {α : Type} {k : Vec F S128x4096 .fp8e5m2 → Prog (TpuEff nD τ sig (Elt F) Λ₀ .tc) α} {Q : α → sProp 𝕄} :
    x8P c f ⊢ iprop((x8P c f -∗ WP c (k f) Q) -∗ WP c (.op (.load x8M (Rect.unit (s := S128x4096) ![0, 0] S128x4096.size i1).toLoadRect hl) k) Q) := by
  have h := wp_load (defs := defs₀ (F := F)) (Γ := .empty) 𝒱₀ (c : Thread nD τ) none Set.univ (m := x8M) (r := (Rect.unit (s := S128x4096) ![0, 0] S128x4096.size i1).toLoadRect) (hl := hl)
    (k := k) (Q := Q) (f := f) (q := fullShare) (S := Finset.univ) (Finset.subset_univ _)
  rw [show x8M.view.readAt (Elt F) (Rect.unit (s := S128x4096) ![0, 0] S128x4096.size i1).toLoadRect f = f from Memref.readAt_unit_zero (Elt F) cc0_scratch0 zero2 _ f] at h
  exact h

/-- A store of the rounded rows leaves what was stored. -/
theorem wp_x8_store (c : Dev nD) (f w : Vec F S128x4096 .fp8e5m2) {i1 : ∀ a, (![0, 0] : Fin 2 → ℕ) a + S128x4096.size a ≤ S128x4096.size a} {hl} {hx}
    {α : Type} {k : PUnit → Prog (TpuEff nD τ sig (Elt F) Λ₀ .tc) α} {Q : α → sProp 𝕄} :
    x8P c f ⊢ iprop((x8P c w -∗ WP c (k ⟨⟩) Q) -∗ WP c (.op (.store x8M (Rect.unit (s := S128x4096) ![0, 0] S128x4096.size i1) w Finset.univ hl hx) k) Q) := by
  have h := wp_store (defs := defs₀ (F := F)) (Γ := .empty) 𝒱₀ (c : Thread nD τ) none Set.univ (m := x8M) (r := (Rect.unit (s := S128x4096) ![0, 0] S128x4096.size i1)) (hx := hl) (hm := hx) (w := w)
    (Mk := Finset.univ) (k := k) (Q := Q) (f := f) (S := Finset.univ) (Finset.subset_univ _)
  rw [show (x8M.access (Rect.unit (s := S128x4096) ![0, 0] S128x4096.size i1)).write (Elt F) f w Finset.univ = w from Memref.write_access_unit_zero_univ (Elt F) cc0_scratch0 zero2 _ f w] at h
  exact h

/-- A load of the staged rows reads what they hold. -/
theorem wp_s0_load (c : Dev nD) (f : Vec F S128x4096 .f32) {i1 : ∀ a, (![0, 0] : Fin 2 → ℕ) a + S128x4096.size a ≤ S128x4096.size a} {hl}
    {α : Type} {k : Vec F S128x4096 .f32 → Prog (TpuEff nD τ sig (Elt F) Λ₀ .tc) α} {Q : α → sProp 𝕄} :
    stg0P c f ⊢ iprop((stg0P c f -∗ WP c (k f) Q) -∗ WP c (.op (.load s0M (Rect.unit (s := S128x4096) ![0, 0] S128x4096.size i1).toLoadRect hl) k) Q) := by
  have h := wp_load (defs := defs₀ (F := F)) (Γ := .empty) 𝒱₀ (c : Thread nD τ) none Set.univ (m := s0M) (r := (Rect.unit (s := S128x4096) ![0, 0] S128x4096.size i1).toLoadRect) (hl := hl)
    (k := k) (Q := Q) (f := f) (q := fullShare) (S := Finset.univ) (Finset.subset_univ _)
  rw [show s0M.view.readAt (Elt F) (Rect.unit (s := S128x4096) ![0, 0] S128x4096.size i1).toLoadRect f = f from Memref.readAt_unit_zero (Elt F) cc0_stg0_0 zero2 _ f] at h
  exact h

/-- The offset of one zero is zero. -/
theorem zero1 : (![0] : Fin 1 → ℕ) = fun _ => 0 := by funext a; fin_cases a; rfl

/-- A load of the first staged scale reads what it holds. -/
theorem wp_s1_load (c : Dev nD) (f : Vec F S1 .f32) {i1 : ∀ a, (![0] : Fin 1 → ℕ) a + S1.size a ≤ S1.size a} {hl}
    {α : Type} {k : Vec F S1 .f32 → Prog (TpuEff nD τ sig (Elt F) Λ₀ .tc) α} {Q : α → sProp 𝕄} :
    stg1P c f ⊢ iprop((stg1P c f -∗ WP c (k f) Q) -∗ WP c (.op (.load s1M (Rect.unit (s := S1) ![0] S1.size i1).toLoadRect hl) k) Q) := by
  have h := wp_load (defs := defs₀ (F := F)) (Γ := .empty) 𝒱₀ (c : Thread nD τ) none Set.univ (m := s1M) (r := (Rect.unit (s := S1) ![0] S1.size i1).toLoadRect) (hl := hl)
    (k := k) (Q := Q) (f := f) (q := fullShare) (S := Finset.univ) (Finset.subset_univ _)
  rw [show s1M.view.readAt (Elt F) (Rect.unit (s := S1) ![0] S1.size i1).toLoadRect f = f from Memref.readAt_unit_zero (Elt F) cc0_stg1_0 zero1 _ f] at h
  exact h

/-- A load of the second staged scale reads what it holds. -/
theorem wp_s2_load (c : Dev nD) (f : Vec F S1 .f32) {i1 : ∀ a, (![0] : Fin 1 → ℕ) a + S1.size a ≤ S1.size a} {hl}
    {α : Type} {k : Vec F S1 .f32 → Prog (TpuEff nD τ sig (Elt F) Λ₀ .tc) α} {Q : α → sProp 𝕄} :
    stg2P c f ⊢ iprop((stg2P c f -∗ WP c (k f) Q) -∗ WP c (.op (.load s2M (Rect.unit (s := S1) ![0] S1.size i1).toLoadRect hl) k) Q) := by
  have h := wp_load (defs := defs₀ (F := F)) (Γ := .empty) 𝒱₀ (c : Thread nD τ) none Set.univ (m := s2M) (r := (Rect.unit (s := S1) ![0] S1.size i1).toLoadRect) (hl := hl)
    (k := k) (Q := Q) (f := f) (q := fullShare) (S := Finset.univ) (Finset.subset_univ _)
  rw [show s2M.view.readAt (Elt F) (Rect.unit (s := S1) ![0] S1.size i1).toLoadRect f = f from Memref.readAt_unit_zero (Elt F) cc0_stg2_0 zero1 _ f] at h
  exact h

/-- A vector of one entry has the same entry at every index. -/
theorem s1_idx (f : Vec F S1 .f32) (x : (S1 : Shape).Idx) : f x = f i0 := congrArg f (by
  funext a; apply Fin.ext
  have h1 := (x a).isLt; have h2 := (i0 a).isLt
  have h3 : (S1 : Shape).size a = 1 := (by decide : ∀ a, (S1 : Shape).size a = 1) a
  omega)

/-- A load of a slot that holds panel `p` reads panel `p`. -/
theorem wp_slot_load (c : Dev nD) (l : Fin 2) (p : Fin 8) {offs : Fin 3 → ℕ} (hs : offs = ![l.val, 0, 0])
    {i2 : ∀ a, offs a + S1x4096x256.size a ≤ S2x4096x256.size a} {hl}
    {α : Type} {k : Vec F S1x4096x256 .f32 → Prog (TpuEff nD τ sig (Elt F) Λ₀ .tc) α} {Q : α → sProp 𝕄} :
    slotOk m c l p ⊢ iprop((slotOk m c l p -∗ WP c (k (wpan m c p)) Q) -∗ WP c
      (.op (.load wbM (Rect.unit (s := S2x4096x256) offs S1x4096x256.size i2).toLoadRect hl) k) Q) := by
  subst hs
  unfold slotOk slotP
  iintro ⟨%f, %hf, Hs⟩ Hk
  iapply (wp_load 𝒱₀ (c : Thread nD τ) none Set.univ (m := wbM) (r := (slotR l).toLoadRect) (S := (slotM l).view.set) (le_of_eq (by
    rw [show (slotM l).view.set = (wbM.access (slotR l)).set from View.set_reshape _ _]; exact (View.set_slice _ _).symm))) $$ Hs
  iintro Hs
  rw [hf]
  iapply Hk
  iexists f
  isplitr; · ipureintro; exact hf
  iexact Hs

end Cert.K

end
-- ==== Proof.Body.lean ====
module

public import proofs.«01_k».proof.Proof.Steps3

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # The body at a grid point, part by part -/

/-- Reading the device's number gives the number. -/
theorem WP_deviceId {c : Dev nD} {α : Type} {k : Dev nD → Prog (TpuEff nD τ sig (Elt F) Λ₀ .tc) α} {Q : α → sProp 𝕄} {R : sProp 𝕄}
    (h : R ⊢ WP c (k c) Q) : R ⊢ WP c (.op .deviceId k) Q := by
  have e : WP c (.op .deviceId k) Q = WP c (k c) Q := wp_deviceId ..
  rw [e]; exact h

/-- The slot of the weights buffer for the `g`-th panel. -/
def par (g : ℕ) : Fin 2 := ⟨g % 2, Nat.mod_lt _ (by decide)⟩

/-- The weights buffer at the start of point `g`, in the middle of it and at its end. -/
def win0 (c : Dev nD) (g : ℕ) : sProp 𝕄 :=
  if g = 0 then iprop(idle m c 0 ∗ idle m c 1) else iprop(fly m c (par g) (pan c g) ∗ idle m c (par (g + 1)))
def winA (c : Dev nD) (g : ℕ) : sProp 𝕄 :=
  if g ≤ 6 then fly m c (par (g + 1)) (pan c (g + 1)) else idle m c (par (g + 1))

/-- What the start of a point takes and leaves besides. -/
def start0 (c : Dev nD) (g : ℕ) : sProp 𝕄 :=
  if g = 0 then iprop(rdys c 0 ∗ (∃ f, x8P c f) ∗ OW c (Ordy c 0 + Orcv c 0)) else iprop(x8P c (x8 m c) ∗ OW c (Orcv c (4 * g)))

/-- Everything owed at the start is above level 1. -/
theorem above_O0 (c : Dev nD) : Above 1 (Ordy c 0 + Orcv c 0) := (above_Ordy c 0 (by decide)).add (above_Orcv c 0 (by decide))

set_option maxHeartbeats 3200000 in
/-- The start of grid point 0: ready signals sent, two panels on their way, the rows rounded. -/
theorem wp_part23_first (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} (hi : (i 0).val = 0) :
    iprop(ctx m K ∗ semVal ((c : Thread nD τ), .reg barS) 0 ∗ stg0P c (xin m c) ∗ start0 m c (i 0).val ∗ win0 m c (i 0).val)
      ⊢ WP c (k0_part23 i s0M h1 wM h2 s1M h3 s2M h4 outM h5 x8M h6 wbM h7 bkM h8 cc0_scratch3 cc0_scratch4 cc0_scratch5 cc0_scratch6 cc0_scratch7)
        (fun a => iprop(⌜a.2.1 = c⌝ ∗ semVal ((c : Thread nD τ), .reg barS) 0 ∗ stg0P c (xin m c) ∗ x8P c (x8 m c) ∗ OW c (Orcv c (4 * (i 0).val)) ∗ fly m c (par (i 0).val) (pan c (i 0).val) ∗ winA m c (i 0).val)) := by
  simp only [k0_part23_eq_skeleton]; unfold k0_part23_skel
  simp only [semSignalWord, semWaitWord, smemLoad, smemLoadElt, Prog.lift, Prog.bind_op, Prog.bind_ret, Prog.pure_eq_ret]
  have c1 : k0_cond1 i = 1#1 := by rw [cond1_eq, if_pos hi]
  have c2 : k0_cond2 i = 1#1 := by rw [cond2_eq, if_pos hi]
  have c3 : ¬ k0_cond3 i = 1#1 := by rw [cond3_eq, if_neg (by omega)]; decide
  refine WP_deviceId ?_
  beta_reduce
  rw [dif_pos c1, dif_pos c2, dif_neg c3]
  have e0 : start0 m c (i 0).val = iprop(rdys c 0 ∗ (∃ f, x8P c f) ∗ OW c (Ordy c 0 + Orcv c 0)) := by unfold start0; rw [if_pos hi]
  have e1 : win0 m c (i 0).val = iprop(idle m c 0 ∗ idle m c 1) := by unfold win0; rw [if_pos hi]
  have e2 : winA m c (i 0).val = fly m c 1 (pan c 1) := by unfold winA; rw [if_pos (by omega), hi]; rfl
  rw [e0, e1, e2, show Orcv c (4 * (i 0).val) = Orcv c 0 by rw [hi], show fly m c (par (i 0).val) (pan c (i 0).val) = fly m c 0 (pan c 0) by rw [hi]; rfl]
  iintro ⟨#Hc, Hb, Hx, ⟨Hr, H8, HO⟩, Hi0, Hi1⟩
  icases H8 with ⟨%f8, H8⟩
  iapply (wp_barrier m c K (Fin.ext (k0_dev1_eq c)) (above_O0 c) (by decide) (by decide)) $$ [Hb HO]
  · isplitr; · iexact Hc
    isplitl [Hb]; · iexact Hb
    iexact HO
  iintro ⟨Hb, HO⟩
  iapply (wp_then (wp_part1 m c K)) $$ [Hr HO]
  · isplitr; · iexact Hc
    isplitl [Hr]; · iexact Hr
    iexact HO
  iintro %_ ⟨Hr, HO⟩
  iapply (wp_then (wp_part2 m c K)) $$ [Hr HO]
  · isplitr; · iexact Hc
    isplitl [Hr]; · iexact Hr
    iexact HO
  iintro %_ ⟨Hr, HO⟩
  iapply (wp_then (wp_part3 m c K)) $$ [Hr HO]
  · isplitr; · iexact Hc
    isplitl [Hr]; · iexact Hr
    iexact HO
  iintro %_ ⟨Hr, HO⟩
  iapply (wp_then (wp_part4 m c K)) $$ [Hr HO]
  · isplitr; · iexact Hc
    isplitl [Hr]; · iexact Hr
    iexact HO
  iintro %_ ⟨Hr, HO⟩
  iapply (wp_then (wp_part5 m c K)) $$ [Hr HO]
  · isplitr; · iexact Hc
    isplitl [Hr]; · iexact Hr
    iexact HO
  iintro %_ ⟨Hr, HO⟩
  iapply (wp_panel m c 0 (pan c 0) (off2_eq i c hi) rfl rfl) $$ Hi0
  iintro Hf
  iapply (wp_panel m c 1 (pan c 1) (off3_eq i c hi) rfl rfl) $$ Hi1
  iintro Hw
  iapply (wp_s0_load c (xin m c)) $$ Hx
  iintro Hx
  iapply (wp_x8_load c f8) $$ H8
  iintro H8
  iapply (wp_x8_store c f8 (k0_pay1 (xin m c))) $$ H8
  iintro H8
  ihave HO := (Entails.of_eq (congrArg (OW c) (show Ordy c 32 + Orcv c 0 = Orcv c 0 by rw [Ordy_end, zero_add]))) $$ HO
  rw [WP_ret]; imodintro
  isplitr; · ipureintro; rfl
  isplitl [Hb]; · iexact Hb
  isplitl [Hx]; · iexact Hx
  isplitl [H8]; · iexact H8
  isplitl [HO]; · iexact HO
  isplitl [Hf]; · iexact Hf
  iexact Hw

set_option maxHeartbeats 3200000 in
/-- The start of a later grid point: the next panel, if there is one, is on its way. -/
theorem wp_part23_next (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} (hi : 1 ≤ (i 0).val) :
    iprop(ctx m K ∗ semVal ((c : Thread nD τ), .reg barS) 0 ∗ stg0P c (xin m c) ∗ start0 m c (i 0).val ∗ win0 m c (i 0).val)
      ⊢ WP c (k0_part23 i s0M h1 wM h2 s1M h3 s2M h4 outM h5 x8M h6 wbM h7 bkM h8 cc0_scratch3 cc0_scratch4 cc0_scratch5 cc0_scratch6 cc0_scratch7)
        (fun a => iprop(⌜a.2.1 = c⌝ ∗ semVal ((c : Thread nD τ), .reg barS) 0 ∗ stg0P c (xin m c) ∗ x8P c (x8 m c) ∗ OW c (Orcv c (4 * (i 0).val)) ∗ fly m c (par (i 0).val) (pan c (i 0).val) ∗ winA m c (i 0).val)) := by
  simp only [k0_part23_eq_skeleton]; unfold k0_part23_skel
  simp only [semSignalWord, semWaitWord, smemLoad, smemLoadElt, Prog.lift, Prog.bind_op, Prog.bind_ret, Prog.pure_eq_ret]
  have hi7 : (i 0).val < 8 := (i 0).isLt
  have c1 : ¬ k0_cond1 i = 1#1 := by rw [cond1_eq, if_neg (by omega)]; decide
  have c2 : ¬ k0_cond2 i = 1#1 := by rw [cond2_eq, if_neg (by omega)]; decide
  refine WP_deviceId ?_
  beta_reduce
  rw [dif_neg c1, dif_neg c2]
  have e0 : start0 m c (i 0).val = iprop(x8P c (x8 m c) ∗ OW c (Orcv c (4 * (i 0).val))) := by unfold start0; rw [if_neg (by omega)]
  have e1 : win0 m c (i 0).val = iprop(fly m c (par (i 0).val) (pan c (i 0).val) ∗ idle m c (par ((i 0).val + 1))) := by unfold win0; rw [if_neg (by omega)]
  rw [e0, e1]
  by_cases h6 : (i 0).val ≤ 6
  · have c3 : k0_cond3 i = 1#1 := by rw [cond3_eq, if_pos ⟨hi, h6⟩]
    have e2 : winA m c (i 0).val = fly m c (par ((i 0).val + 1)) (pan c ((i 0).val + 1)) := by unfold winA; rw [if_pos h6]
    rw [dif_pos c3, e2]
    iintro ⟨#Hc, Hb, Hx, ⟨H8, HO⟩, Hf, Hi⟩
    iapply (wp_panel m c (par ((i 0).val + 1)) (pan c ((i 0).val + 1)) (off6_eq i c) (k0_off5_eq i) (k0_off4_eq i)) $$ Hi
    iintro Hw
    rw [WP_ret]; imodintro
    isplitr; · ipureintro; rfl
    isplitl [Hb]; · iexact Hb
    isplitl [Hx]; · iexact Hx
    isplitl [H8]; · iexact H8
    isplitl [HO]; · iexact HO
    isplitl [Hf]; · iexact Hf
    iexact Hw
  · have c3 : ¬ k0_cond3 i = 1#1 := by rw [cond3_eq, if_neg (fun h => h6 h.2)]; decide
    have e2 : winA m c (i 0).val = idle m c (par ((i 0).val + 1)) := by unfold winA; rw [if_neg h6]
    rw [dif_neg c3, e2]
    iintro ⟨#Hc, Hb, Hx, ⟨H8, HO⟩, Hf, Hw⟩
    rw [WP_ret]; imodintro
    isplitr; · ipureintro; rfl
    isplitl [Hb]; · iexact Hb
    isplitl [Hx]; · iexact Hx
    isplitl [H8]; · iexact H8
    isplitl [HO]; · iexact HO
    isplitl [Hf]; · iexact Hf
    iexact Hw

/-- The start of a point. -/
theorem wp_part23 (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} :
    iprop(ctx m K ∗ semVal ((c : Thread nD τ), .reg barS) 0 ∗ stg0P c (xin m c) ∗ start0 m c (i 0).val ∗ win0 m c (i 0).val)
      ⊢ WP c (k0_part23 i s0M h1 wM h2 s1M h3 s2M h4 outM h5 x8M h6 wbM h7 bkM h8 cc0_scratch3 cc0_scratch4 cc0_scratch5 cc0_scratch6 cc0_scratch7)
        (fun a => iprop(⌜a.2.1 = c⌝ ∗ semVal ((c : Thread nD τ), .reg barS) 0 ∗ stg0P c (xin m c) ∗ x8P c (x8 m c) ∗ OW c (Orcv c (4 * (i 0).val)) ∗ fly m c (par (i 0).val) (pan c (i 0).val) ∗ winA m c (i 0).val)) := by
  by_cases hi : (i 0).val = 0
  · exact wp_part23_first m c K hi
  · exact wp_part23_next m c K (by omega)

/-- The four devices served at a grid point are those of its panel. -/
theorem dpan_tgt (c : Dev nD) (g j : ℕ) (hj : j < 4) : dpan (tgt c (4 * g + j)) = pan c g := by
  apply Fin.ext
  show (4 * (((4 * g + j) / 4 + c.val / 4) % 8) + (4 * g + j) % 4) / 4 = (g + c.val / 4) % 8
  omega
/-- The `j`-th device served at a grid point takes the panel's `j`-th quarter. -/
theorem mod_tgt (c : Dev nD) (g j : ℕ) (hj : j < 4) : (tgt c (4 * g + j)).val % 4 = j := by
  show (4 * (((4 * g + j) / 4 + c.val / 4) % 8) + (4 * g + j) % 4) % 4 = j
  omega

/-- The first value computed at a grid point is the slab of its first target. -/
theorem slab1_0 (c : Dev nD) (g : ℕ) : k0_pay3 (x8 m c) (wpan m c (pan c g)) (sxin m c i0) (swin m c i0) = slab1 m c (tgt c (4 * g)) := by
  unfold slab1; rw [show 4 * g = 4 * g + 0 from rfl, dpan_tgt c g 0 (by decide), mod_tgt c g 0 (by decide)]; rfl
/-- The second value computed at a grid point is the slab of its second target. -/
theorem slab1_1 (c : Dev nD) (g : ℕ) : k0_pay4 (x8 m c) (wpan m c (pan c g)) (sxin m c i0) (swin m c i0) = slab1 m c (tgt c (4 * g + 1)) := by
  unfold slab1; rw [dpan_tgt c g 1 (by decide), mod_tgt c g 1 (by decide)]; rfl
/-- The third value computed at a grid point is the slab of its third target. -/
theorem slab1_2 (c : Dev nD) (g : ℕ) : k0_pay6 (k0_pay5 (x8 m c) (wpan m c (pan c g)) (sxin m c i0) (swin m c i0)) = slab1 m c (tgt c (4 * g + 2)) := by
  unfold slab1; rw [dpan_tgt c g 2 (by decide), mod_tgt c g 2 (by decide)]; rfl
/-- The fourth value computed at a grid point is the slab of its fourth target. -/
theorem slab1_3 (c : Dev nD) (g : ℕ) : k0_pay7 (k0_pay2 (x8 m c) (wpan m c (pan c g)) (sxin m c i0) (swin m c i0)) = slab1 m c (tgt c (4 * g + 3)) := by
  unfold slab1; rw [dpan_tgt c g 3 (by decide), mod_tgt c g 3 (by decide)]; rfl

set_option maxHeartbeats 3200000 in
/-- The middle of a grid point: the panel has arrived, the product is computed and the first two slabs are stored. -/
theorem wp_part24 (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} {g0 v21 : BitVec 32} :
    iprop(ctx m K ∗ stg1P c (sxin m c) ∗ stg2P c (swin m c) ∗ x8P c (x8 m c) ∗ OW c (Orcv c (4 * (i 0).val)) ∗ fly m c (par (i 0).val) (pan c (i 0).val)
        ∗ (∃ f, slabP c (tgt c (4 * (i 0).val)) f) ∗ (∃ f, slabP c (tgt c (4 * (i 0).val + 1)) f))
      ⊢ WP c (k0_part24 i s0M h1 wM h2 s1M h3 s2M h4 outM h5 x8M h6 wbM h7 bkM h8 cc0_scratch3 cc0_scratch4 cc0_scratch5 cc0_scratch6 cc0_scratch7 g0 c v21)
        (fun a => iprop(⌜a.1 = k0_pay2 (x8 m c) (wpan m c (pan c (i 0).val)) (sxin m c i0) (swin m c i0) ∧ a.2.1 = k0_pay5 (x8 m c) (wpan m c (pan c (i 0).val)) (sxin m c i0) (swin m c i0)⌝
          ∗ stg1P c (sxin m c) ∗ stg2P c (swin m c) ∗ x8P c (x8 m c) ∗ OW c (Orcv c (4 * (i 0).val)) ∗ idle m c (par (i 0).val)
          ∗ slabOk m c (tgt c (4 * (i 0).val)) ∗ slabOk m c (tgt c (4 * (i 0).val + 1)))) := by
  simp only [k0_part24_eq_skeleton]; unfold k0_part24_skel
  simp only [semSignalWord, semWaitWord, smemLoad, smemLoadElt, Prog.lift, Prog.bind_op, Prog.bind_ret, Prog.pure_eq_ret]
  iintro ⟨#Hc, H1, H2, H8, HO, Hf, Hs0, Hs1⟩
  iapply (wp_panel_wait m c K (par (i 0).val) (pan c (i 0).val) (above_Orcv c (4 * (i 0).val) (by decide)) (k0_off8_eq i) (k0_off7_eq i)) $$ [Hf HO]
  · isplitr; · iexact Hc
    isplitl [Hf]; · iexact Hf
    iexact HO
  iintro ⟨Hsl, Hwa, Hv, HO⟩
  iapply (wp_x8_load c (x8 m c)) $$ H8
  iintro H8
  iapply (wp_slot_load m c (par (i 0).val) (pan c (i 0).val) (k0_off10_eq i)) $$ Hsl
  iintro Hsl
  iapply (wp_s1_load c (sxin m c)) $$ H1
  iintro H1
  rw [s1_idx (sxin m c)]
  iapply (wp_s2_load c (swin m c)) $$ H2
  iintro H2
  rw [s1_idx (swin m c)]
  iapply (wp_slab_put m c (tgt c (4 * (i 0).val)) (off11_0 i c) (slab1_0 m c (i 0).val)) $$ Hs0
  iintro Hs0
  iapply (wp_slab_put m c (tgt c (4 * (i 0).val + 1)) (off11_1 i c) (slab1_1 m c (i 0).val)) $$ Hs1
  iintro Hs1
  rw [WP_ret]; imodintro
  isplitr; · ipureintro; exact ⟨rfl, rfl⟩
  isplitl [H1]; · iexact H1
  isplitl [H2]; · iexact H2
  isplitl [H8]; · iexact H8
  isplitl [HO]; · iexact HO
  isplitl [Hsl Hwa Hv]
  · unfold idle slotOk
    icases Hsl with ⟨%f, %hf, Hsl⟩
    isplitl [Hsl]; · iexists f; iexact Hsl
    isplitl [Hwa]; · iexact Hwa
    iexact Hv
  isplitl [Hs0]; · iexact Hs0
  iexact Hs1

set_option maxHeartbeats 3200000 in
/-- The next stretch of a grid point: the first two slabs are sent, the other two stored, and the third's local copy is started if it is the device's own. -/
theorem wp_part25 (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} {v2 v21 v71 : BitVec 32} {v55 : FVec F S128x256 .bf16} {v70 : FVec F S128x64 .bf16}
    (h55 : v55 = k0_pay2 (x8 m c) (wpan m c (pan c (i 0).val)) (sxin m c i0) (swin m c i0)) (h70 : v70 = k0_pay5 (x8 m c) (wpan m c (pan c (i 0).val)) (sxin m c i0) (swin m c i0)) :
    iprop(ctx m K ∗ OW c (Orcv c (4 * (i 0).val))
        ∗ (slabOk m c (tgt c (4 * (i 0).val)) ∗ xtra c (tgt c (4 * (i 0).val))) ∗ (slabOk m c (tgt c (4 * (i 0).val + 1)) ∗ xtra c (tgt c (4 * (i 0).val + 1)))
        ∗ ((∃ f, slabP c (tgt c (4 * (i 0).val + 2)) f) ∗ xtra c (tgt c (4 * (i 0).val + 2))) ∗ (∃ f, slabP c (tgt c (4 * (i 0).val + 3)) f))
      ⊢ WP c (k0_part25 i s0M h1 wM h2 s1M h3 s2M h4 outM h5 x8M h6 wbM h7 bkM h8 cc0_scratch3 cc0_scratch4 cc0_scratch5 cc0_scratch6 cc0_scratch7 c v2 v21 v55 v70 v71)
        (fun _ => iprop(OW c (Orcv c (4 * (i 0).val + 2)) ∗ doneP m c (tgt c (4 * (i 0).val)) ∗ doneP m c (tgt c (4 * (i 0).val + 1))
          ∗ midP m c (tgt c (4 * (i 0).val + 2)) ∗ slabOk m c (tgt c (4 * (i 0).val + 3)))) := by
  have hi7 : (i 0).val < 8 := (i 0).isLt
  subst h55; subst h70
  simp only [k0_part25_eq_skeleton]; unfold k0_part25_skel
  simp only [semSignalWord, semWaitWord, smemLoad, smemLoadElt, Prog.lift, Prog.bind_op, Prog.bind_ret, Prog.pure_eq_ret]
  iintro ⟨#Hc, HO, ⟨Ha, Hax⟩, ⟨Hb, Hbx⟩, ⟨Hs2, Hx2⟩, Hs3⟩
  iapply (wp_slab_put m c (tgt c (4 * (i 0).val + 2)) (off11_2 i c) (slab1_2 m c (i 0).val)) $$ Hs2
  iintro Hs2
  iapply (wp_slab_put m c (tgt c (4 * (i 0).val + 3)) (off11_3 i c) (slab1_3 m c (i 0).val)) $$ Hs3
  iintro Hs3
  iapply (wp_loc m c (tgt c (4 * (i 0).val)) (cond4_eq i c) (off12_eq i c) (off13_eq i c)) $$ [Ha Hax]
  · isplitl [Ha]; · iexact Ha
    iexact Hax
  iintro Ha
  iapply (wp_rem m c K (4 * (i 0).val) (by omega) (cond5_eq i c) (off14_eq i c) (k0_off15_eq c) (k0_off16_eq c) (off17_eq i c) (dev34_eq i c) (by decide)) $$ [Ha HO]
  · isplitr; · iexact Hc
    isplitl [Ha]; · iexact Ha
    iexact HO
  iintro ⟨Ha, HO⟩
  iapply (wp_loc m c (tgt c (4 * (i 0).val + 1)) (cond6_eq i c) (off18_eq i c) (off19_eq i c)) $$ [Hb Hbx]
  · isplitl [Hb]; · iexact Hb
    iexact Hbx
  iintro Hb
  iapply (wp_rem m c K (4 * (i 0).val + 1) (by omega) (cond7_eq i c) (off20_eq i c) (k0_off21_eq c) (k0_off22_eq c) (off23_eq i c) (dev35_eq i c) (by decide)) $$ [Hb HO]
  · isplitr; · iexact Hc
    isplitl [Hb]; · iexact Hb
    iexact HO
  iintro ⟨Hb, HO⟩
  iapply (wp_loc m c (tgt c (4 * (i 0).val + 2)) (cond8_eq i c) (off24_eq i c) (off25_eq i c)) $$ [Hs2 Hx2]
  · isplitl [Hs2]; · iexact Hs2
    iexact Hx2
  iintro Hs2
  rw [WP_ret]; imodintro
  isplitl [HO]; · iexact HO
  isplitl [Ha]; · iexact Ha
  isplitl [Hb]; · iexact Hb
  isplitl [Hs2]; · iexact Hs2
  iexact Hs3

end Cert.K

end
-- ==== Proof.Body2.lean ====
module

public import proofs.«01_k».proof.Proof.Body

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! # One grid point -/

/-- The order of sending meets every device once. -/
theorem tgt_inj : ∀ (c : Dev nD) (a b : Fin 32), tgt c a.val = tgt c b.val → a = b := by decide +kernel
/-- The order of sending reaches every device. -/
theorem tgt_all : ∀ c : Dev nD, (Finset.range 32).image (tgt c) = Finset.univ := by decide +kernel
/-- Going round the mesh from a device meets every device once. -/
theorem dv_inj : ∀ (c : Dev nD) (a b : Fin 32), dv (c.val + a.val) = dv (c.val + b.val) → a = b := by decide +kernel
/-- Going round the mesh from a device reaches every device. -/
theorem dv_all : ∀ c : Dev nD, (Finset.range 32).image (fun t => dv (c.val + t)) = Finset.univ := by decide +kernel
/-- Zero places on is the device itself. -/
theorem dv_zero : ∀ c : Dev nD, dv (c.val + 0) = c := by decide +kernel

/-- Something for each turn of sending is something for each device. -/
theorem turns (c : Dev nD) (g : Dev nD → sProp 𝕄) : bigSep (Finset.range 32) (fun k => g (tgt c k)) = bigSep Finset.univ g := by
  rw [← tgt_all c]
  refine (bigSep_image_of_injOn (fun a ha b hb h => ?_) g).symm
  exact congrArg Fin.val (tgt_inj c ⟨a, Finset.mem_range.mp ha⟩ ⟨b, Finset.mem_range.mp hb⟩ h)

/-- Something for each device is something for the device itself and for the 31 next ones. -/
theorem around (c : Dev nD) (g : Dev nD → sProp 𝕄) :
    bigSep Finset.univ g = iprop(g c ∗ bigSep (Finset.Ico 1 32) fun t => g (dv (c.val + t))) := by
  have h1 : bigSep (Finset.range 32) (fun t => g (dv (c.val + t))) = bigSep Finset.univ g := by
    rw [← dv_all c]
    refine (bigSep_image_of_injOn (fun a ha b hb h => ?_) g).symm
    exact congrArg Fin.val (dv_inj c ⟨a, Finset.mem_range.mp ha⟩ ⟨b, Finset.mem_range.mp hb⟩ h)
  rw [← h1, Finset.range_eq_Ico, bigSep_Ico_succ_bot (by decide), dv_zero]

/-- The slabs still to be sent, and the slabs sent. -/
def Todo (c d : Dev nD) : sProp 𝕄 := iprop((∃ f, slabP c d f) ∗ xtra c d)
def todo (c : Dev nD) (n : ℕ) : sProp 𝕄 := bigSep (Finset.Ico n 32) fun k => Todo c (tgt c k)
def done (c : Dev nD) (n : ℕ) : sProp 𝕄 := bigSep (Finset.range n) fun k => doneP m c (tgt c k)

/-- What only the last waits take. -/
def pend (c : Dev nD) : sProp 𝕄 :=
  iprop((atPos ER (rdyC c c) 0 ∅ 0 ∗ cred (tallyAt (rdyC c c) () 1)) ∗ (atPos ER (sndC c c) 0 ∅ 0 ∗ atPos ER (rcvC c c) 0 ∅ 0)
    ∗ bigSep (Finset.Ico 1 32) (RP c) ∗ bigSep (Finset.Ico 1 32) fun t => atPos ER (sndC c (dv (c.val + t))) 0 ∅ 0)

/-- What the kernel leaves. -/
def last (c : Dev nD) : sProp 𝕄 :=
  iprop(own1 m c ∗ (idle m c 0 ∗ idle m c 1) ∗ bigSep (Finset.Ico 1 32) (RG m c) ∗ bigSep (Finset.Ico 1 32) (SG c)
    ∗ (bigSep (Finset.Ico 1 32) fun t => semVal (rdyC c (dv (c.val + t))) 0) ∗ semVal (sndC c c) 0 ∗ semVal (rcvC c c) 0)

/-- What point `g` leaves to the next. -/
def after (c : Dev nD) (g : ℕ) : sProp 𝕄 :=
  if g ≤ 6 then iprop(OW c (Orcv c (4 * (g + 1))) ∗ win0 m c (g + 1) ∗ todo c (4 * (g + 1)) ∗ done m c (4 * (g + 1)) ∗ pend c)
  else iprop(OW c 0 ∗ last m c)

/-- The slabs still to be sent are the next one and those after it. -/
theorem todo_peel (c : Dev nD) (n : ℕ) (h : n < 32) : todo (F := F) c n = iprop(Todo c (tgt c n) ∗ todo c (n + 1)) := bigSep_Ico_succ_bot h _
/-- The slabs sent after one more turn are that turn's and those before it. -/
theorem done_push (c : Dev nD) (n : ℕ) : done m c (n + 1) = iprop(doneP m c (tgt c n) ∗ done m c n) := bigSep_range_succ n _

/-- A device's send cell for itself is not used. -/
theorem no1 (c : Dev nD) : ¬ hasDuty c (1, c) := fun h => h.elim (fun h => absurd (show (1 : Fin 3) = 0 from h) (by decide)) (fun h => h rfl)
/-- A device's receive cell for itself is not used. -/
theorem no2 (c : Dev nD) : ¬ hasDuty c (2, c) := fun h => h.elim (fun h => absurd (show (2 : Fin 3) = 0 from h) (by decide)) (fun h => h rfl)

/-- Every slab sent: what the last waits take. -/
theorem gather (c : Dev nD) : iprop(done m c 32 ∗ pend c) ⊢ iprop(own0 m c ∗ bigSep (Finset.Ico 1 32) (RP c) ∗ bigSep (Finset.Ico 1 32) (SP c)
    ∗ (bigSep (Finset.Ico 1 32) fun t => semVal (rdyC c (dv (c.val + t))) 0) ∗ atPos ER (sndC c c) 0 ∅ 0 ∗ atPos ER (rcvC c c) 0 ∅ 0) := by
  have h0 : done m c 32 = iprop(locF m c ∗ (bigSep (Finset.Ico 1 32) fun t => cred (tallyAt (sndC c (dv (c.val + t))) () N))
      ∗ bigSep (Finset.Ico 1 32) fun t => semVal (rdyC c (dv (c.val + t))) 0) := by
    unfold done
    rw [turns c (doneP m c), around c (doneP m c), ← bigSep_sep']
    congr 1
    · unfold doneP; rw [if_pos rfl]
    · refine bigSep_congr fun t ht => ?_
      have h := Finset.mem_Ico.mp ht
      unfold doneP; rw [if_neg (dv_add_ne c t h.1 h.2)]
  have h1 : bigSep (Finset.Ico 1 32) (SP (F := F) c) = iprop((bigSep (Finset.Ico 1 32) fun t => atPos ER (sndC c (dv (c.val + t))) 0 ∅ 0)
      ∗ bigSep (Finset.Ico 1 32) fun t => cred (tallyAt (sndC c (dv (c.val + t))) () N)) := by
    rw [← bigSep_sep']; rfl
  rw [h0, h1]
  unfold pend own0
  iintro ⟨⟨Hl, Hc, Hv⟩, Hr, ⟨Hs, Hw⟩, HR, HS⟩
  isplitl [Hr Hl]
  · isplitl [Hr]; · iexact Hr
    unfold locF; iexact Hl
  isplitl [HR]; · iexact HR
  isplitl [HS Hc]
  · isplitl [HS]; · iexact HS
    iexact Hc
  isplitl [Hv]; · iexact Hv
  isplitl [Hs]; · iexact Hs
  iexact Hw

set_option maxHeartbeats 6400000 in
/-- The body at a grid point. -/
theorem wp_body (c : Dev nD) (K : Dev nD × Kx → ℕ) {i : grid0.Coords} {h1 : s0M.IsWhole} {h2 : wM.IsWhole} {h3 : s1M.IsWhole} {h4 : s2M.IsWhole} {h5 : outM.IsWhole} {h6 : x8M.IsWhole} {h7 : wbM.IsWhole} {h8 : bkM.IsWhole} :
    iprop(ctx m K ∗ semVal ((c : Thread nD τ), .reg barS) 0 ∗ (stg0P c (xin m c) ∗ stg1P c (sxin m c) ∗ stg2P c (swin m c)) ∗ start0 m c (i 0).val ∗ win0 m c (i 0).val
        ∗ todo c (4 * (i 0).val) ∗ done m c (4 * (i 0).val) ∗ pend c)
      ⊢ WP c (cc0_body i s0M h1 wM h2 s1M h3 s2M h4 outM h5 x8M h6 wbM h7 bkM h8 cc0_scratch3 cc0_scratch4 cc0_scratch5 cc0_scratch6 cc0_scratch7)
        (fun _ => iprop(semVal ((c : Thread nD τ), .reg barS) 0 ∗ (stg0P c (xin m c) ∗ stg1P c (sxin m c) ∗ stg2P c (swin m c)) ∗ x8P c (x8 m c) ∗ after m c (i 0).val)) := by
  have hi7 : (i 0).val < 8 := (i 0).isLt
  simp only [cc0_body_eq_skeleton]; unfold cc0_body_skel
  simp only [semSignalWord, semWaitWord, smemLoad, smemLoadElt, Prog.lift, Prog.bind_op, Prog.bind_ret, Prog.pure_eq_ret]
  rw [todo_peel c _ (by omega), todo_peel c _ (by omega), todo_peel c _ (by omega), todo_peel c _ (by omega)]
  unfold Todo
  iintro ⟨#Hc, Hb, ⟨H0, H1, H2⟩, Hst, Hw, ⟨⟨Ha, Hax⟩, ⟨Hd, Hdx⟩, ⟨He, Hex⟩, ⟨Hf, Hfx⟩, Ht⟩, Hdn, Hp⟩
  iapply (wp_then (wp_part23 m c K)) $$ [Hb H0 Hst Hw]
  · isplitr; · iexact Hc
    isplitl [Hb]; · iexact Hb
    isplitl [H0]; · iexact H0
    isplitl [Hst]; · iexact Hst
    iexact Hw
  iintro %a ⟨%ha, Hb, H0, H8, HO, Hy, HA⟩
  obtain ⟨w0, d, w2, w3⟩ := a
  obtain rfl : d = c := ha
  iapply (wp_then (wp_part24 m d K)) $$ [H1 H2 H8 HO Hy Ha Hd]
  · isplitr; · iexact Hc
    isplitl [H1]; · iexact H1
    isplitl [H2]; · iexact H2
    isplitl [H8]; · iexact H8
    isplitl [HO]; · iexact HO
    isplitl [Hy]; · iexact Hy
    isplitl [Ha]; · iexact Ha
    iexact Hd
  iintro %b ⟨%hb, H1, H2, H8, HO, HI, Ha, Hd⟩
  iapply (wp_then (wp_part25 m d K hb.1 hb.2)) $$ [HO Ha Hax Hd Hdx He Hex Hf]
  · isplitr; · iexact Hc
    isplitl [HO]; · iexact HO
    isplitl [Ha Hax]
    · isplitl [Ha]; · iexact Ha
      iexact Hax
    isplitl [Hd Hdx]
    · isplitl [Hd]; · iexact Hd
      iexact Hdx
    isplitl [He Hex]
    · isplitl [He]; · iexact He
      iexact Hex
    iexact Hf
  iintro %_ ⟨HO, Ha, Hd, He, Hf⟩
  iapply (wp_rem m d K (4 * (i 0).val + 2) (by omega) (cond9_eq i d) (off26_eq i d) (k0_off27_eq d) (k0_off28_eq d) (off29_eq i d) (dev36_eq i d) (by decide)) $$ [He HO]
  · isplitr; · iexact Hc
    isplitl [He]; · iexact He
    iexact HO
  iintro ⟨He, HO⟩
  iapply (wp_loc m d (tgt d (4 * (i 0).val + 3)) (cond10_eq i d) (off30_eq i d) (off31_eq i d)) $$ [Hf Hfx]
  · isplitl [Hf]; · iexact Hf
    iexact Hfx
  iintro Hf
  iapply (wp_rem m d K (4 * (i 0).val + 3) (by omega) (cond11_eq i d) (off32_eq i d) (k0_off33_eq d) (k0_off34_eq d) (off35_eq i d) (dev37_eq i d) (by decide)) $$ [Hf HO]
  · isplitr; · iexact Hc
    isplitl [Hf]; · iexact Hf
    iexact HO
  iintro ⟨Hf, HO⟩
  ihave Hdn2 : done m d (4 * ((i 0).val + 1)) $$ [Ha Hd He Hf Hdn]
  · rw [show 4 * ((i 0).val + 1) = 4 * (i 0).val + 3 + 1 from by omega, done_push, done_push, done_push, done_push]
    isplitl [Hf]; · iexact Hf
    isplitl [He]; · iexact He
    isplitl [Hd]; · iexact Hd
    isplitl [Ha]; · iexact Ha
    iexact Hdn
  have e4 : 4 * (i 0).val + 3 + 1 = 4 * ((i 0).val + 1) := by omega
  ihave HO := (Entails.of_eq (congrArg (fun n => OW (F := F) d (Orcv d n)) e4)) $$ HO
  ihave Ht := (Entails.of_eq (congrArg (fun n => todo (F := F) d n) e4)) $$ Ht
  by_cases h6 : (i 0).val ≤ 6
  · have c12 : ¬ k0_cond12 i = 1#1 := by rw [cond12_eq, if_neg (by omega)]; decide
    rw [dif_neg c12, WP_ret]
    have ew : winA m d (i 0).val = fly m d (par ((i 0).val + 1)) (pan d ((i 0).val + 1)) := by unfold winA; rw [if_pos h6]
    have en : win0 m d ((i 0).val + 1) = iprop(fly m d (par ((i 0).val + 1)) (pan d ((i 0).val + 1)) ∗ idle m d (par (i 0).val)) := by
      have ep : par ((i 0).val + 1 + 1) = par (i 0).val := Fin.ext (by show ((i 0).val + 1 + 1) % 2 = (i 0).val % 2; omega)
      unfold win0; rw [if_neg (by omega), ep]
    have ea : after m d (i 0).val = iprop(OW d (Orcv d (4 * ((i 0).val + 1))) ∗ win0 m d ((i 0).val + 1) ∗ todo d (4 * ((i 0).val + 1)) ∗ done m d (4 * ((i 0).val + 1)) ∗ pend d) := if_pos h6
    ihave HA := (Entails.of_eq ew) $$ HA
    rw [ea, en]
    imodintro
    isplitl [Hb]; · iexact Hb
    isplitl [H0 H1 H2]
    · isplitl [H0]; · iexact H0
      isplitl [H1]; · iexact H1
      iexact H2
    isplitl [H8]; · iexact H8
    isplitl [HO]; · iexact HO
    isplitl [HA HI]
    · isplitl [HA]; · iexact HA
      iexact HI
    isplitl [Ht]; · iexact Ht
    isplitl [Hdn2]; · iexact Hdn2
    iexact Hp
  · have e7 : (i 0).val = 7 := by omega
    have c12 : k0_cond12 i = 1#1 := by rw [cond12_eq, if_pos e7]
    rw [dif_pos c12]
    have ew : winA m d (i 0).val = idle m d 0 := by rw [e7]; unfold winA; rw [if_neg (by decide)]; rfl
    have ei : idle m d (par (i 0).val) = idle m d 1 := by rw [e7]; rfl
    have ea : after m d (i 0).val = iprop(OW d 0 ∗ last m d) := if_neg h6
    have e32 : 4 * ((i 0).val + 1) = 32 := by omega
    have eo : OW (F := F) d (Orcv d (4 * ((i 0).val + 1))) = OW d 0 := by rw [e32, Orcv_end]
    have ed : done m d (4 * ((i 0).val + 1)) = done m d 32 := by rw [e32]
    ihave HA := (Entails.of_eq ew) $$ HA
    ihave HI := (Entails.of_eq ei) $$ HI
    ihave HO := (Entails.of_eq eo) $$ HO
    ihave Hdn2 := (Entails.of_eq ed) $$ Hdn2
    rw [ea]
    ihave ⟨Hown, HR, HS, Hrd, Has, Har⟩ := (gather m d) $$ [Hdn2 Hp]
    · isplitl [Hdn2]; · iexact Hdn2
      iexact Hp
    iapply (wp_then (wp_part22 m d K)) $$ [Hown HR HS HO]
    · isplitr; · iexact Hc
      isplitl [Hown]; · iexact Hown
      unfold fin
      rw [Finset.Ico_self, bigSep_empty, bigSep_empty]
      isplitl [HR]; · iexact HR
      isplitr; · iempintro
      isplitl [HS]; · iexact HS
      isplitr; · iempintro
      iexact HO
    iintro %_ ⟨Hown, Hfin⟩
    iapply (wp_swait m d K 32 31 (by decide) (by decide) (off39_t d 30) (off41_t d 30)) $$ [Hfin]
    · isplitr; · iexact Hc
      iexact Hfin
    iintro Hfin
    ihave #HIs := (ctx_inv m K d (1, d)) $$ Hc
    ihave #HIv := (ctx_inv m K d (2, d)) $$ Hc
    rw [WP_ret]
    imod (Rounds.cell_close ER (rd m) (Set.mem_univ (K (d, (1, d)))) (fun h => h) (R := 0) (duties_never m d (1, d) (no1 d))) $$ [Has] with Hz1
    · isplitr; · iexact HIs
      iexact Has
    imod (Rounds.cell_close ER (rd m) (Set.mem_univ (K (d, (2, d)))) (fun h => h) (R := 0) (duties_never m d (2, d) (no2 d))) $$ [Har] with Hz2
    · isplitr; · iexact HIv
      iexact Har
    have el : last m d = iprop(own1 m d ∗ (idle m d 0 ∗ idle m d 1) ∗ bigSep (Finset.Ico 1 32) (RG m d) ∗ bigSep (Finset.Ico 1 32) (SG d)
        ∗ (bigSep (Finset.Ico 1 32) fun t => semVal (rdyC d (dv (d.val + t))) 0) ∗ semVal (sndC d d) 0 ∗ semVal (rcvC d d) 0) := rfl
    imodintro
    rw [el]
    ihave ⟨-, HR, -, HS, HO⟩ := (Entails.of_eq (fin_eq m d 32 32)) $$ Hfin
    isplitl [Hb]; · iexact Hb
    isplitl [H0 H1 H2]
    · isplitl [H0]; · iexact H0
      isplitl [H1]; · iexact H1
      iexact H2
    isplitl [H8]; · iexact H8
    isplitl [HO]; · iexact HO
    isplitl [Hown]; · iexact Hown
    isplitl [HA HI]
    · isplitl [HA]; · iexact HA
      iexact HI
    isplitl [HR]; · iexact HR
    isplitl [HS]; · iexact HS
    isplitl [Hrd]; · iexact Hrd
    isplitl [Hz1]; · iexact Hz1
    iexact Hz2

end Cert.K

end
-- ==== Proof.State.lean ====
module

public import proofs.«01_k».proof.Proof.Body2
public import proofs.«01_k».proof.Proof.Gen.KernelIdeal.Frame

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device holds of the protocol when point `n` begins (`n ≤ 7`), or at the end. -/
def state (c : Dev nD) (n : ℕ) : sProp 𝕄 :=
  if n ≤ 7 then
    iprop((∃ K, ctx m K) ∗ semVal (Dev.tc (τ := τ) c, SemLoc.reg barrier0) 0 ∗ win0 m c n ∗ todo c (4 * n) ∗ done m c (4 * n) ∗ pend c
      ∗ (if n = 0 then iprop(rdys c 0 ∗ ∃ f, x8P c f) else x8P c (x8 m c)))
  else iprop(semVal (Dev.tc (τ := τ) c, SemLoc.reg barrier0) 0 ∗ x8P c (x8 m c) ∗ last m c)

/-- The proof data of the pipeline. -/
def dats (_ : Fin 1) (c : Dev nD) : Dat τ (Elt F) Unit ℕ UU ℕ cfg0 c where
  A w := V m c (Pipeline.arrRef spec0 w)
  after w _ := match w with
    | ⟨0, _⟩ => xin m c
    | ⟨1, _⟩ => sxin m c
    | ⟨2, _⟩ => swin m c
  Φ t := state m c t.val
  q _ := fullShare
  owed t := if t.val = 0 then O₀ c else Orcv c (4 * t.val)

/-- Every window is held whole. -/
theorem share_eq (c : Dev nD) (w : Fin cfg0.W) : (dats m 0 c).share w = fullShare := by unfold Dat.share; split <;> rfl

/-- A window's block is its whole array at every point. -/
theorem iblk_0 (c : Dev nD) (t : Fin cfg0.N) : iblk m c 0 t = xin m c := by
  funext j
  unfold iblk xin
  rw [View.read_apply]
  refine congrArg (m ((c : Thread nD τ).loc main_arg0)) (funext fun a => Fin.ext ?_)
  have hz : cc0_transform_0 (grid0.coords t) a = 0 := by fin_cases a <;> rfl
  show cc0_transform_0 (grid0.coords t) a * S128x4096.size a + 1 * (j a).val = (j a).val
  rw [hz]; omega
/-- The first scale's window is the same at every grid point. -/
theorem iblk_1 (c : Dev nD) (t : Fin cfg0.N) : iblk m c 1 t = sxin m c := by
  funext j
  unfold iblk sxin
  rw [View.read_apply]
  refine congrArg (m ((c : Thread nD τ).loc main_arg2)) (funext fun a => Fin.ext ?_)
  have hz : cc0_transform_2 (grid0.coords t) a = 0 := by fin_cases a <;> rfl
  show cc0_transform_2 (grid0.coords t) a * S1.size a + 1 * (j a).val = (j a).val
  rw [hz]; omega
/-- The second scale's window is the same at every grid point. -/
theorem iblk_2 (c : Dev nD) (t : Fin cfg0.N) : iblk m c 2 t = swin m c := by
  funext j
  unfold iblk swin
  rw [View.read_apply]
  refine congrArg (m ((c : Thread nD τ).loc main_arg3)) (funext fun a => Fin.ext ?_)
  have hz : cc0_transform_3 (grid0.coords t) a = 0 := by fin_cases a <;> rfl
  show cc0_transform_3 (grid0.coords t) a * S1.size a + 1 * (j a).val = (j a).val
  rw [hz]; omega

/-- At every grid point the staged rows are the device's rows of the input. -/
theorem before_0 (c : Dev nD) (t : Fin cfg0.N) (d) : (dats m 0 c).before 0 t d = xin m c :=
  ((dats m 0 c).before_in_eq_fetched 0 rfl (fun _ => rfl) (fun _ _ _ => rfl) (fun t => (iblk_0 m c t).symm) t d).trans (iblk_0 m c t)
/-- At every grid point the first staged scale is the input's. -/
theorem before_1 (c : Dev nD) (t : Fin cfg0.N) (d) : (dats m 0 c).before 1 t d = sxin m c :=
  ((dats m 0 c).before_in_eq_fetched 1 rfl (fun _ => rfl) (fun _ _ _ => rfl) (fun t => (iblk_1 m c t).symm) t d).trans (iblk_1 m c t)
/-- At every grid point the second staged scale is the weights'. -/
theorem before_2 (c : Dev nD) (t : Fin cfg0.N) (d) : (dats m 0 c).before 2 t d = swin m c :=
  ((dats m 0 c).before_in_eq_fetched 2 rfl (fun _ => rfl) (fun _ _ _ => rfl) (fun t => (iblk_2 m c t).symm) t d).trans (iblk_2 m c t)

/-- The coordinate of a grid point is its number. -/
theorem coords_val : ∀ t : Fin cfg0.N, (grid0.coords t 0).val = t.val := by
  intro t
  rcases fin_N0 t with h | h | h | h | h | h | h | h <;> subst h <;> decide

/-- Owning a whole buffer by its contents is holding it with these contents, in the library's form. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Owning a whole buffer by its contents is holding it with these contents. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = (((c : Thread nD τ).loc b) ↦{fullShare} X) := by
  rw [owns_whole_eq]
  have h1 : iprop(∃ f : Buf (Elt F) ((c : Thread nD τ).loc b), ⌜f = X⌝ ∗ (((c : Thread nD τ).loc b) ↦{fullShare} f)) ⊢ ((((c : Thread nD τ).loc b) ↦{fullShare} X) : sProp 𝕄) := by
    iintro ⟨%f, %h, H⟩; subst h; iexact H
  have h2 : ((((c : Thread nD τ).loc b) ↦{fullShare} X) : sProp 𝕄) ⊢ iprop(∃ f : Buf (Elt F) ((c : Thread nD τ).loc b), ⌜f = X⌝ ∗ (((c : Thread nD τ).loc b) ↦{fullShare} f)) := by
    iintro H; iexists X; isplitr
    · ipureintro; rfl
    · iexact H
  exact Entails.antisymm h1 h2

/-- The same for the staged rows. -/
theorem owns_stg0 (c : Dev nD) (f : Vec F S128x4096 .f32) :
    (owns (Ix := Unit) (Name := ℕ) (U := UU) (Lvl := ℕ) (c : Thread nD τ) (Memref.whole cc0_stg0_0) fullShare f : sProp 𝕄) = stg0P c f := owns_stage c cc0_stg0_0 f
/-- The same for the first staged scale. -/
theorem owns_stg1 (c : Dev nD) (f : Vec F S1 .f32) :
    (owns (Ix := Unit) (Name := ℕ) (U := UU) (Lvl := ℕ) (c : Thread nD τ) (Memref.whole cc0_stg1_0) fullShare f : sProp 𝕄) = stg1P c f := owns_stage c cc0_stg1_0 f
/-- The same for the second staged scale. -/
theorem owns_stg2 (c : Dev nD) (f : Vec F S1 .f32) :
    (owns (Ix := Unit) (Name := ℕ) (U := UU) (Lvl := ℕ) (c : Thread nD τ) (Memref.whole cc0_stg2_0) fullShare f : sProp 𝕄) = stg2P c f := owns_stage c cc0_stg2_0 f

/-- Before point `n`, the protocol's part of what the body takes, and after it what the body leaves. -/
theorem state_open (c : Dev nD) (n : ℕ) (hn : n ≤ 7) (O : CellTallies nD τ sig Unit) (hO : O = if n = 0 then O₀ c else Orcv c (4 * n)) :
    iprop(state m c n ∗ OW c O) ⊢ iprop((∃ K, ctx m K) ∗ semVal ((c : Thread nD τ), .reg barS) 0 ∗ start0 m c n ∗ win0 m c n ∗ todo c (4 * n) ∗ done m c (4 * n) ∗ pend c) := by
  subst hO
  unfold state
  rw [if_pos hn]
  by_cases h : n = 0
  · subst h
    rw [if_pos rfl, if_pos rfl]
    have e0 : start0 m c 0 = iprop(rdys c 0 ∗ (∃ f, x8P c f) ∗ OW c (Ordy c 0 + Orcv c 0)) := rfl
    rw [e0]
    unfold O₀
    iintro ⟨⟨HK, Hb, Hw, Ht, Hd, Hp, Hr, H8⟩, HO⟩
    isplitl [HK]; · iexact HK
    isplitl [Hb]; · iexact Hb
    isplitl [Hr H8 HO]
    · isplitl [Hr]; · iexact Hr
      isplitl [H8]; · iexact H8
      iexact HO
    isplitl [Hw]; · iexact Hw
    isplitl [Ht]; · iexact Ht
    isplitl [Hd]; · iexact Hd
    iexact Hp
  · rw [if_neg h, if_neg h]
    have e0 : start0 m c n = iprop(x8P c (x8 m c) ∗ OW c (Orcv c (4 * n))) := if_neg h
    rw [e0]
    iintro ⟨⟨HK, Hb, Hw, Ht, Hd, Hp, H8⟩, HO⟩
    isplitl [HK]; · iexact HK
    isplitl [Hb]; · iexact Hb
    isplitl [H8 HO]
    · isplitl [H8]; · iexact H8
      iexact HO
    isplitl [Hw]; · iexact Hw
    isplitl [Ht]; · iexact Ht
    isplitl [Hd]; · iexact Hd
    iexact Hp

/-- What a grid point leaves is the state before the next one. -/
theorem state_close (c : Dev nD) (K : Dev nD × Kx → ℕ) (n : ℕ) (hn : n ≤ 7) (O : CellTallies nD τ sig Unit) (hO : O = Orcv c (4 * (n + 1))) :
    iprop(ctx m K ∗ semVal ((c : Thread nD τ), .reg barS) 0 ∗ x8P c (x8 m c) ∗ after m c n) ⊢ iprop(state m c (n + 1) ∗ OW c O) := by
  subst hO
  unfold state
  by_cases h : n ≤ 6
  · have ea : after m c n = iprop(OW c (Orcv c (4 * (n + 1))) ∗ win0 m c (n + 1) ∗ todo c (4 * (n + 1)) ∗ done m c (4 * (n + 1)) ∗ pend c) := if_pos h
    rw [ea, if_pos (by omega : n + 1 ≤ 7), if_neg (by omega : ¬ n + 1 = 0)]
    iintro ⟨#HK, Hb, H8, HO, Hw, Ht, Hd, Hp⟩
    isplitr [HO]
    · isplitr [Hb H8 Hw Ht Hd Hp]; · iexists K; iexact HK
      isplitl [Hb]; · iexact Hb
      isplitl [Hw]; · iexact Hw
      isplitl [Ht]; · iexact Ht
      isplitl [Hd]; · iexact Hd
      isplitl [Hp]; · iexact Hp
      iexact H8
    iexact HO
  · have ea : after m c n = iprop(OW c 0 ∗ last m c) := if_neg h
    have e7 : 4 * (n + 1) = 32 := by omega
    rw [ea, if_neg (by omega : ¬ n + 1 ≤ 7), e7, Orcv_end]
    iintro ⟨#HK, Hb, H8, HO, Hl⟩
    isplitl [Hb H8 Hl]
    · isplitl [Hb]; · iexact Hb
      isplitl [H8]; · iexact H8
      iexact Hl
    iexact HO

/-- The body takes the state before each grid point to the state after it. -/
theorem body_obligation (c : Dev nD) : BodyObligation (dats m 0 c) (defs₀ (F := F)) 𝒱₀ () Set.univ := fun t => by
  rw [bigSep_W0, bigSep_W0]
  simp only [before_0, before_1, before_2]
  have hg := coords_val t
  have hN : t.val < 8 := lt_of_lt_of_eq t.isLt N_0
  have hs : ∀ w : Fin 3, ∀ u : Fin (cfg0.win w).nbuf, u.val = 0 := by decide
  have key (h1 : s0M.IsWhole) (h2 : wM.IsWhole) (h3 : s1M.IsWhole) (h4 : s2M.IsWhole) (h5 : outM.IsWhole) (h6 : x8M.IsWhole) (h7 : wbM.IsWhole) (h8 : bkM.IsWhole) : iprop(state m c t.val ∗ (dats m 0 c).owesAt () t.castSucc ∗ stg0P c (xin m c) ∗ stg1P c (sxin m c) ∗ stg2P c (swin m c))
      ⊢ WP c (cc0_body (grid0.coords t) s0M h1 wM h2 s1M h3 s2M h4 outM h5 x8M h6 wbM h7 bkM h8 cc0_scratch3 cc0_scratch4 cc0_scratch5 cc0_scratch6 cc0_scratch7) (fun _ => iprop(state m c (t.val + 1) ∗ (dats m 0 c).owesAt () t.succ ∗ stg0P c (xin m c) ∗ stg1P c (sxin m c) ∗ stg2P c (swin m c))) := by
    have hin : iprop(state m c t.val ∗ (dats m 0 c).owesAt () t.castSucc) ⊢ iprop((∃ K, ctx m K) ∗ semVal ((c : Thread nD τ), .reg barS) 0 ∗ start0 m c (grid0.coords t 0).val ∗ win0 m c (grid0.coords t 0).val ∗ todo c (4 * (grid0.coords t 0).val) ∗ done m c (4 * (grid0.coords t 0).val) ∗ pend c) := by
      rw [hg]
      unfold Dat.owesAt Pipeline.owesWithin
      iintro ⟨Hs, %W, %hW, HO⟩
      iapply (state_open m c t.val (by omega) ((dats m 0 c).owed t.castSucc) rfl)
      isplitl [Hs]; · iexact Hs
      unfold OW
      iexists W
      iexact HO
    have hout (K : Dev nD × Kx → ℕ) : iprop(ctx m K ∗ semVal ((c : Thread nD τ), .reg barS) 0 ∗ x8P c (x8 m c) ∗ after m c (grid0.coords t 0).val) ⊢ iprop(state m c (t.val + 1) ∗ (dats m 0 c).owesAt () t.succ) := by
      rw [hg]
      unfold Dat.owesAt Pipeline.owesWithin
      iintro H
      ihave ⟨Hs, HO⟩ := (state_close m c K t.val (by omega) ((dats m 0 c).owed t.succ) rfl) $$ H
      isplitl [Hs]; · iexact Hs
      unfold OW
      icases HO with ⟨%W, HO⟩
      iexists W
      isplitr; · ipureintro; exact fun _ _ => Or.inl trivial
      iexact HO
    iintro ⟨Hs, Ho, H0, H1, H2⟩
    ihave ⟨⟨%K, #Hc⟩, Hb, Hst, Hw, Ht, Hd, Hp⟩ := hin $$ [Hs Ho]
    · isplitl [Hs]; · iexact Hs
      iexact Ho
    iapply (wp_wand_r Idealize.ShloMosaic.frame (wpE (defs₀ (F := F)) 𝒱₀ (c : Thread nD τ) none))
    isplitl [Hb H0 H1 H2 Hst Hw Ht Hd Hp]
    · iapply (wp_body m c K)
      isplitr; · iexact Hc
      isplitl [Hb]; · iexact Hb
      isplitl [H0 H1 H2]
      · isplitl [H0]; · iexact H0
        isplitl [H1]; · iexact H1
        iexact H2
      isplitl [Hst]; · iexact Hst
      isplitl [Hw]; · iexact Hw
      isplitl [Ht]; · iexact Ht
      isplitl [Hd]; · iexact Hd
      iexact Hp
    · iintro %_ ⟨Hb, ⟨H0, H1, H2⟩, H8, Ha⟩
      ihave ⟨Hs, Ho⟩ := (hout K) $$ [Hb H8 Ha]
      · isplitr; · iexact Hc
        isplitl [Hb]; · iexact Hb
        isplitl [H8]; · iexact H8
        iexact Ha
      isplitl [Hs]; · iexact Hs
      isplitl [Ho]; · iexact Ho
      isplitl [H0]; · iexact H0
      isplitl [H1]; · iexact H1
      iexact H2
  have gen : ∀ x0 x1 x2 : Fin 1,
      iprop(state m c t.val ∗ (dats m 0 c).owesAt () t.castSucc ∗ (∃ d : (cfg0.win 0).block.Idx → Elt F (cfg0.win 0).elt, owns (c : Thread nD τ) (stage0_0 x0) fullShare (xin m c))
          ∗ (∃ d : (cfg0.win 1).block.Idx → Elt F (cfg0.win 1).elt, owns (c : Thread nD τ) (stage0_1 x1) fullShare (sxin m c))
          ∗ (∃ d : (cfg0.win 2).block.Idx → Elt F (cfg0.win 2).elt, owns (c : Thread nD τ) (stage0_2 x2) fullShare (swin m c)))
        ⊢ WP c (cc0_body (grid0.coords t) (stage0_0 x0) (hstage0_0 x0) wM (Memref.isWhole_whole _) (stage0_1 x1) (hstage0_1 x1) (stage0_2 x2) (hstage0_2 x2) outM (Memref.isWhole_whole _) x8M (Memref.isWhole_whole _) wbM (Memref.isWhole_whole _) bkM (Memref.isWhole_whole _) cc0_scratch3 cc0_scratch4 cc0_scratch5 cc0_scratch6 cc0_scratch7)
          (fun _ => iprop(state m c (t.val + 1) ∗ (dats m 0 c).owesAt () t.succ ∗ owns (c : Thread nD τ) (stage0_0 x0) fullShare (xin m c)
            ∗ owns (c : Thread nD τ) (stage0_1 x1) fullShare (sxin m c) ∗ owns (c : Thread nD τ) (stage0_2 x2) fullShare (swin m c))) := by
    refine Fin.forall_fin_one.mpr (Fin.forall_fin_one.mpr (Fin.forall_fin_one.mpr ?_))
    iintro ⟨Hs, Ho, ⟨%_, H0⟩, ⟨%_, H1⟩, ⟨%_, H2⟩⟩
    ihave H0 := (Entails.of_eq (owns_stg0 c (xin m c))) $$ H0
    ihave H1 := (Entails.of_eq (owns_stg1 c (sxin m c))) $$ H1
    ihave H2 := (Entails.of_eq (owns_stg2 c (swin m c))) $$ H2
    iapply (wp_wand_r Idealize.ShloMosaic.frame (wpE (defs₀ (F := F)) 𝒱₀ (c : Thread nD τ) none))
    isplitl [Hs Ho H0 H1 H2]
    · iapply (key (Memref.isWhole_whole _) (Memref.isWhole_whole _) (Memref.isWhole_whole _) (Memref.isWhole_whole _) (Memref.isWhole_whole _) (Memref.isWhole_whole _) (Memref.isWhole_whole _) (Memref.isWhole_whole _))
      isplitl [Hs]; · iexact Hs
      isplitl [Ho]; · iexact Ho
      isplitl [H0]; · iexact H0
      isplitl [H1]; · iexact H1
      iexact H2
    · iintro %_ ⟨Hs, Ho, H0, H1, H2⟩
      ihave H0 := (Entails.of_eq (owns_stg0 c (xin m c)).symm) $$ H0
      ihave H1 := (Entails.of_eq (owns_stg1 c (sxin m c)).symm) $$ H1
      ihave H2 := (Entails.of_eq (owns_stg2 c (swin m c)).symm) $$ H2
      isplitl [Hs]; · iexact Hs
      isplitl [Ho]; · iexact Ho
      isplitl [H0]; · iexact H0
      isplitl [H1]; · iexact H1
      iexact H2
  exact gen (cfg0.slots t 0) (cfg0.slots t 1) (cfg0.slots t 2)

end Cert.K

end
-- ==== Proof.Ends.lean ====
module

public import proofs.«01_k».proof.Proof.State

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The parts of the buffers cover them -/

/-- An entry of the result lies in a device's rows if its row number says so. -/
theorem mem_row (s : Dev nD) (i : S4096x64.Idx) : i ∈ (rowR s).set ↔ (i 0).val / 128 = s.val := by
  have h1 : (i 1).val < 64 := (i 1).isLt
  rw [show (rowR s).set = (Rect.unit (s := S4096x64) ![128 * s.val, 0] S128x64.size (inb_row s)).set from rfl, Rect.mem_set_unit]
  constructor
  · intro h
    have h0 := h 0
    have e1 : (![128 * s.val, 0] : Fin 2 → ℕ) 0 = 128 * s.val := rfl
    have e2 : S128x64.size 0 = 128 := rfl
    rw [e1, e2] at h0; omega
  · intro h a
    fin_cases a
    · show 128 * s.val ≤ (i 0).val ∧ (i 0).val < 128 * s.val + 128
      omega
    · show 0 ≤ (i 1).val ∧ (i 1).val < 0 + 64
      omega

/-- An entry of the slab buffer lies in a device's slab if its first index says so. -/
theorem mem_slab (d : Dev nD) (i : S32x128x64.Idx) : i ∈ (slabR d).set ↔ (i 0).val = d.val := by
  have h1 : (i 1).val < 128 := (i 1).isLt
  have h2 : (i 2).val < 64 := (i 2).isLt
  rw [show (slabR d).set = (Rect.unit (s := S32x128x64) ![d.val, 0, 0] S1x128x64.size (inb_slab d)).set from rfl, Rect.mem_set_unit]
  constructor
  · intro h
    have h0 : d.val ≤ (i 0).val ∧ (i 0).val < d.val + 1 := h 0
    omega
  · intro h a
    fin_cases a
    · show d.val ≤ (i 0).val ∧ (i 0).val < d.val + 1
      omega
    · show 0 ≤ (i 1).val ∧ (i 1).val < 0 + 128
      omega
    · show 0 ≤ (i 2).val ∧ (i 2).val < 0 + 64
      omega

/-- An entry of the weights buffer lies in a slot if its first index says so. -/
theorem mem_slot (l : Fin 2) (i : S2x4096x256.Idx) : i ∈ (slotR l).set ↔ (i 0).val = l.val := by
  have h1 : (i 1).val < 4096 := (i 1).isLt
  have h2 : (i 2).val < 256 := (i 2).isLt
  rw [show (slotR l).set = (Rect.unit (s := S2x4096x256) ![l.val, 0, 0] S1x4096x256.size (inb_slot l)).set from rfl, Rect.mem_set_unit]
  constructor
  · intro h
    have h0 : l.val ≤ (i 0).val ∧ (i 0).val < l.val + 1 := h 0
    omega
  · intro h a
    fin_cases a
    · show l.val ≤ (i 0).val ∧ (i 0).val < l.val + 1
      omega
    · show 0 ≤ (i 1).val ∧ (i 1).val < 0 + 4096
      omega
    · show 0 ≤ (i 2).val ∧ (i 2).val < 0 + 256
      omega

/-- The places of a device's rows are those of their rectangle. -/
theorem row_set (s : Dev nD) : (rowM s).view.set = (rowR s).set := View.set_slice_whole main_v1 (rowR s)
/-- The places of a slab are those of its rectangle. -/
theorem slab_set' (d : Dev nD) : (slabM d).view.set = (slabR d).set := (View.set_reshape _ _).trans (View.set_slice_whole cc0_scratch2 (slabR d))
/-- The places of a slot are those of its rectangle. -/
theorem slot_set (l : Fin 2) : (slotM l).view.set = (slotR l).set := (View.set_reshape _ _).trans (View.set_slice_whole cc0_scratch1 (slotR l))

/-- The rows of two devices do not meet. -/
theorem row_disj : ∀ s ∈ (Finset.univ : Finset (Dev nD)), ∀ t ∈ (Finset.univ : Finset (Dev nD)), s ≠ t → Disjoint (rowR s).set (rowR t).set :=
  fun s _ t _ h => Finset.disjoint_left.mpr fun i hi hj => h (Fin.ext (((mem_row s i).mp hi).symm.trans ((mem_row t i).mp hj)))
/-- Two slabs do not meet. -/
theorem slab_disj : ∀ s ∈ (Finset.univ : Finset (Dev nD)), ∀ t ∈ (Finset.univ : Finset (Dev nD)), s ≠ t → Disjoint (slabR s).set (slabR t).set :=
  fun s _ t _ h => Finset.disjoint_left.mpr fun i hi hj => h (Fin.ext (((mem_slab s i).mp hi).symm.trans ((mem_slab t i).mp hj)))
/-- The two slots do not meet. -/
theorem slot_disj : ∀ s ∈ (Finset.univ : Finset (Fin 2)), ∀ t ∈ (Finset.univ : Finset (Fin 2)), s ≠ t → Disjoint (slotR s).set (slotR t).set :=
  fun s _ t _ h => Finset.disjoint_left.mpr fun i hi hj => h (Fin.ext (((mem_slot s i).mp hi).symm.trans ((mem_slot t i).mp hj)))

/-- The rows of all devices are the whole result. -/
theorem row_cover : (Finset.univ : Finset (Dev nD)).biUnion (fun s => (rowR s).set) = Finset.univ := by
  ext i
  simp only [Finset.mem_biUnion, Finset.mem_univ, true_and, iff_true]
  have h : (i 0).val < 4096 := (i 0).isLt
  exact ⟨⟨(i 0).val / 128, by show _ < 32; omega⟩, (mem_row _ i).mpr rfl⟩
/-- All slabs are the whole slab buffer. -/
theorem slab_cover : (Finset.univ : Finset (Dev nD)).biUnion (fun s => (slabR s).set) = Finset.univ := by
  ext i
  simp only [Finset.mem_biUnion, Finset.mem_univ, true_and, iff_true]
  exact ⟨⟨(i 0).val, (i 0).isLt⟩, (mem_slab _ i).mpr rfl⟩
/-- Both slots are the whole weights buffer. -/
theorem slot_cover : (Finset.univ : Finset (Fin 2)).biUnion (fun s => (slotR s).set) = Finset.univ := by
  ext i
  simp only [Finset.mem_biUnion, Finset.mem_univ, true_and, iff_true]
  exact ⟨⟨(i 0).val, (i 0).isLt⟩, (mem_slot _ i).mpr rfl⟩

/-- Holding a device's rows is holding the places of their rectangle. -/
theorem rowP_eq (c s : Dev nD) (f : Buf (Elt F) ((c : Thread nD τ).loc main_v1)) :
    rowP c s f = (((c : Thread nD τ).loc main_v1) ↦[(rowR s).set]{fullShare} f : sProp 𝕄) :=
  congrArg (fun S => (((c : Thread nD τ).loc main_v1) ↦[S]{fullShare} f : sProp 𝕄)) (row_set s)
/-- Holding a slab is holding the places of its rectangle. -/
theorem slabP_eq (c d : Dev nD) (f : Buf (Elt F) ((c : Thread nD τ).loc cc0_scratch2)) :
    slabP c d f = (((c : Thread nD τ).loc cc0_scratch2) ↦[(slabR d).set]{fullShare} f : sProp 𝕄) :=
  congrArg (fun S => (((c : Thread nD τ).loc cc0_scratch2) ↦[S]{fullShare} f : sProp 𝕄)) (slab_set' d)
/-- Holding a slot is holding the places of its rectangle. -/
theorem slotP_eq (c : Dev nD) (l : Fin 2) (f : Buf (Elt F) ((c : Thread nD τ).loc cc0_scratch1)) :
    slotP c l f = (((c : Thread nD τ).loc cc0_scratch1) ↦[(slotR l).set]{fullShare} f : sProp 𝕄) :=
  congrArg (fun S => (((c : Thread nD τ).loc cc0_scratch1) ↦[S]{fullShare} f : sProp 𝕄)) (slot_set l)

/-- The result's buffer is its 32 bands of rows. -/
theorem rows_eq (c : Dev nD) (f : Buf (Elt F) ((c : Thread nD τ).loc main_v1)) :
    (((c : Thread nD τ).loc main_v1) ↦{fullShare} f : sProp 𝕄) = bigSep Finset.univ fun s => rowP c s f := by
  have h := pointsTo_biUnion (Ix := Unit) (Name := ℕ) (U := UU) (Lvl := ℕ) (ℓ := (c : Thread nD τ).loc main_v1) (q := fullShare) (f := f)
    (Finset.univ : Finset (Dev nD)) (fun s => (rowR s).set) row_disj
  rw [row_cover] at h
  exact h.trans (bigSep_congr fun s _ => (rowP_eq c s f).symm)
/-- Holding the slab buffer is holding every slab. -/
theorem slabs_eq (c : Dev nD) (f : Buf (Elt F) ((c : Thread nD τ).loc cc0_scratch2)) :
    (((c : Thread nD τ).loc cc0_scratch2) ↦{fullShare} f : sProp 𝕄) = bigSep Finset.univ fun s => slabP c s f := by
  have h := pointsTo_biUnion (Ix := Unit) (Name := ℕ) (U := UU) (Lvl := ℕ) (ℓ := (c : Thread nD τ).loc cc0_scratch2) (q := fullShare) (f := f)
    (Finset.univ : Finset (Dev nD)) (fun s => (slabR s).set) slab_disj
  rw [slab_cover] at h
  exact h.trans (bigSep_congr fun s _ => (slabP_eq c s f).symm)
/-- Holding the weights buffer is holding every slot. -/
theorem slots_eq (c : Dev nD) (f : Buf (Elt F) ((c : Thread nD τ).loc cc0_scratch1)) :
    (((c : Thread nD τ).loc cc0_scratch1) ↦{fullShare} f : sProp 𝕄) = bigSep Finset.univ fun s => slotP c s f := by
  have h := pointsTo_biUnion (Ix := Unit) (Name := ℕ) (U := UU) (Lvl := ℕ) (ℓ := (c : Thread nD τ).loc cc0_scratch1) (q := fullShare) (f := f)
    (Finset.univ : Finset (Fin 2)) (fun s => (slotR s).set) slot_disj
  rw [slot_cover] at h
  exact h.trans (bigSep_congr fun s _ => (slotP_eq c s f).symm)

/-- All slabs, whatever they hold, make up the slab buffer. -/
theorem slabs_join (c : Dev nD) : (bigSep Finset.univ fun d => iprop(∃ f, slabP (F := F) c d f))
    ⊢ iprop(∃ f : Buf (Elt F) ((c : Thread nD τ).loc cc0_scratch2), ((c : Thread nD τ).loc cc0_scratch2) ↦{fullShare} f) := by
  have h1 := bigSep_exists_pi (Finset.univ : Finset (Dev nD)) (fun d (f : Buf (Elt F) ((c : Thread nD τ).loc cc0_scratch2)) => slabP (F := F) c d f)
  have h2 : ∀ fs : Dev nD → Buf (Elt F) ((c : Thread nD τ).loc cc0_scratch2),
      (bigSep Finset.univ fun d => slabP (F := F) c d (fs d)) ⊢ iprop(∃ f : Buf (Elt F) ((c : Thread nD τ).loc cc0_scratch2), ((c : Thread nD τ).loc cc0_scratch2) ↦{fullShare} f) := by
    intro fs
    have h3 := pointsTo_biUnion_join (Ix := Unit) (Name := ℕ) (U := UU) (Lvl := ℕ) (q := fullShare) (Finset.univ : Finset (Dev nD)) (fun s => (slabR s).set) fs (fs 0) slab_disj
    rw [slab_cover] at h3
    rw [bigSep_congr fun d _ => slabP_eq c d (fs d)]
    iintro H
    ihave H := h3 $$ H
    icases H with ⟨%g, -, H⟩
    iexists g
    iexact H
  iintro H
  ihave H := h1 $$ H
  icases H with ⟨%fs, H⟩
  iapply (h2 fs) $$ H

/-- Both slots, whatever they hold, make up the weights buffer. -/
theorem slots_join (c : Dev nD) (f g : Buf (Elt F) ((c : Thread nD τ).loc cc0_scratch1)) : iprop(slotP c 0 f ∗ slotP c 1 g)
    ⊢ iprop(∃ f : Buf (Elt F) ((c : Thread nD τ).loc cc0_scratch1), ((c : Thread nD τ).loc cc0_scratch1) ↦{fullShare} f) := by
  let fs : Fin 2 → Buf (Elt F) ((c : Thread nD τ).loc cc0_scratch1) := ![f, g]
  have e : iprop(slotP c 0 f ∗ slotP c 1 g) = (bigSep Finset.univ fun l => slotP c l (fs l)) := by
    rw [bigSep_univ_eq_bigSepL [(0 : Fin 2), 1] (by decide) (by decide)]; rfl
  have h3 := pointsTo_biUnion_join (Ix := Unit) (Name := ℕ) (U := UU) (Lvl := ℕ) (q := fullShare) (Finset.univ : Finset (Fin 2)) (fun s => (slotR s).set) fs (fs 0) slot_disj
  rw [slot_cover] at h3
  rw [e, bigSep_congr fun l _ => slotP_eq c l (fs l)]
  iintro H
  ihave H := h3 $$ H
  icases H with ⟨%g, -, H⟩
  iexists g
  iexact H

/-- Holding the weights buffer is holding slot 0 and slot 1. -/
theorem slots_two (c : Dev nD) (f : Buf (Elt F) ((c : Thread nD τ).loc cc0_scratch1)) :
    (((c : Thread nD τ).loc cc0_scratch1) ↦{fullShare} f : sProp 𝕄) = iprop(slotP c 0 f ∗ slotP c 1 f) := by
  rw [slots_eq, bigSep_univ_eq_bigSepL [(0 : Fin 2), 1] (by decide) (by decide)]; rfl

/-- The weights' buffer is its two halves, one for each slot's transfers. -/
theorem halves (c : Dev nD) : (((c : Thread nD τ).loc main_arg1) ↦{fullShare} win m c : sProp 𝕄) ⊣⊢ iprop(wAll m c 0 ∗ wAll m c 1) :=
  pointsTo_share (PosShare.mem_left_op_right fullShare)

/-! ## The kernel's own semaphores -/

def osem : Kx ⊕ Fin 3 → SemLoc sig
  | .inl x => ksem x
  | .inr 0 => .dma locS
  | .inr 1 => .dma (wS 0)
  | .inr 2 => .dma (wS 1)

/-- The semaphores of the exchange are the kernel's own. -/
theorem ksem_scoped : ∀ x : Kx, (ksem x).isScoped .tc = true := by decide +kernel
/-- The local copy's semaphore is not of the exchange. -/
theorem ksem_loc : ∀ x : Kx, ksem x ≠ .dma locS := by decide +kernel
/-- The first slot's semaphore is not of the exchange. -/
theorem ksem_w0 : ∀ x : Kx, ksem x ≠ .dma (wS 0) := by decide +kernel
/-- The second slot's semaphore is not of the exchange. -/
theorem ksem_w1 : ∀ x : Kx, ksem x ≠ .dma (wS 1) := by decide +kernel
/-- The three other semaphores are the kernel's own too. -/
theorem rest_scoped : ∀ k : Fin 3, (osem (.inr k)).isScoped .tc = true := by decide +kernel
/-- The three other semaphores are different. -/
theorem rest_inj : ∀ a b : Fin 3, osem (.inr a) = osem (.inr b) → a = b := by decide +kernel
/-- No semaphore of the exchange stages a window. -/
theorem ksem_stage : ∀ (x : Kx) (w : Fin 3) (s : Fin (spec0 w).nbuf), ksem x ≠ .dma ((spec0 w).sem s) := by decide +kernel
/-- None of the three other semaphores stages a window. -/
theorem rest_stage : ∀ (k : Fin 3) (w : Fin 3) (s : Fin (spec0 w).nbuf), osem (.inr k) ≠ .dma ((spec0 w).sem s) := by decide +kernel
/-- No semaphore of the exchange is one of the three others. -/
theorem ksem_rest (x : Kx) : ∀ k : Fin 3, ksem x ≠ osem (.inr k) := by
  intro k; fin_cases k
  · exact ksem_loc x
  · exact ksem_w0 x
  · exact ksem_w1 x

/-- The listed semaphores are the kernel's own, different, and stage no window. -/
theorem osemFacts : Pipeline.OwnSemFacts spec0 osem where
  isScoped k := by
    cases k with
    | inl x => exact ksem_scoped x
    | inr k => exact rest_scoped k
  inj a b h := by
    cases a with
    | inl x => cases b with
      | inl y => exact congrArg _ (ksem_inj h)
      | inr k => exact absurd h (ksem_rest x k)
    | inr j => cases b with
      | inl y => exact absurd h.symm (ksem_rest y j)
      | inr k => exact congrArg _ (rest_inj j k h)
  disj k w s := by
    cases k with
    | inl x => exact ksem_stage x w s
    | inr k => exact rest_stage k w s

/-- The kernel's own counters at zero: those of the exchange and the three others. -/
theorem own_eq (c : Dev nD) : (Pipeline.ownSems0 osem c : sProp 𝕄)
    = iprop((bigSep Finset.univ fun x : Kx => semVal (kcell c x) 0)
      ∗ semVal ((c : Thread nD τ), .dma locS) 0 ∗ semVal ((c : Thread nD τ), .dma (wS 0)) 0 ∗ semVal ((c : Thread nD τ), .dma (wS 1)) 0) := by
  unfold Pipeline.ownSems0
  refine (bigSep_univ_sum _).trans ?_
  rw [bigSep_univ_eq_bigSepL [(0 : Fin 3), 1, 2] (by decide) (by decide)]; rfl

/-- Something for each name of the exchange is something for each ready, send and receive name. -/
theorem kx_eq (g : Kx → sProp 𝕄) : bigSep Finset.univ g
    = iprop((bigSep Finset.univ fun j => g (0, j)) ∗ (bigSep Finset.univ fun j => g (1, j)) ∗ bigSep Finset.univ fun j => g (2, j)) := by
  rw [bigSep_univ_prod, bigSep_univ_eq_bigSepL [(0 : Fin 3), 1, 2] (by decide) (by decide)]; rfl

/-- The counters of the exchange are the ready, the send and the receive counters. -/
theorem kx_sems (c : Dev nD) : (bigSep Finset.univ fun x : Kx => (semVal (kcell c x) 0 : sProp 𝕄))
    = iprop((bigSep Finset.univ fun j => semVal (rdyC c j) 0) ∗ (bigSep Finset.univ fun j => semVal (sndC c j) 0) ∗ bigSep Finset.univ fun j => semVal (rcvC c j) 0) :=
  kx_eq _

/-! ## What the kernel leaves -/

/-- What the kernel hands to the host operation that follows it. -/
def Left (c : Dev nD) : sProp 𝕄 :=
  iprop((((c : Thread nD τ).loc main_arg1) ↦{fullShare} win m c)
    ∗ (((c : Thread nD τ).loc main_v1) ↦{fullShare} (outv m c : Buf (Elt F) ((c : Thread nD τ).loc main_v1)))
    ∗ semVal (Dev.tc (τ := τ) c, SemLoc.reg barrier0) 0)

/-- The state after the last grid point, written out. -/
theorem state_last (c : Dev nD) : (dats m 0 c).Φ (Fin.last cfg0.N) = iprop(semVal (Dev.tc (τ := τ) c, SemLoc.reg barrier0) 0 ∗ x8P c (x8 m c) ∗ last m c) := by
  show state m c (Fin.last cfg0.N).val = _
  unfold state
  rw [if_neg (by decide)]

/-- The state after the last grid point gives the result, the kernel's counters at zero and its scratch buffers back. -/
theorem ends (c : Dev nD) : (dats m 0 c).Φ (Fin.last cfg0.N) ⊢ iprop(Left m c ∗ Pipeline.ownSems0 osem c ∗ Pipeline.scopedRest spec0 c) := by
  rw [state_last, scopedRest0_eq, own_eq, kx_sems, around c fun j => semVal (rdyC c j) 0, around c fun j => semVal (sndC c j) 0,
    around c fun j => semVal (rcvC c j) 0]
  unfold Left last own1 idle RG SG
  rw [rows_eq, around c fun s => rowP c s (outv m c), bigSep_sep', bigSep_sep']
  have hs := slabs_join (F := F) c
  rw [around c fun d => iprop(∃ f, slabP (F := F) c d f)] at hs
  iintro ⟨Hb, Hx, ⟨Hr0, ⟨Hrow, Hsl⟩, Hloc⟩, ⟨⟨⟨%f0, Hf0⟩, Hw0, Hs0⟩, ⟨%f1, Hf1⟩, Hw1, Hs1⟩, ⟨Hv, Hrows⟩, ⟨Hsv, Hsls⟩, Hrd, Hsn, Hrc⟩
  isplitl [Hw0 Hw1 Hrow Hrows Hb]
  · isplitl [Hw0 Hw1]
    · iapply (halves m c).2
      isplitl [Hw0] <;> iassumption
    isplitl [Hrow Hrows]
    · isplitl [Hrow] <;> iassumption
    iexact Hb
  isplitl [Hr0 Hloc Hs0 Hs1 Hv Hsv Hrd Hsn Hrc]
  · isplitl [Hr0 Hv Hsv Hrd Hsn Hrc]
    · isplitl [Hr0 Hrd]; · isplitl [Hr0] <;> iassumption
      isplitl [Hsn Hsv]; · isplitl [Hsn] <;> iassumption
      isplitl [Hrc] <;> iassumption
    isplitl [Hloc]; · iexact Hloc
    isplitl [Hs0] <;> iassumption
  isplitl [Hx]
  · iexists _; unfold x8P; iexact Hx
  isplitl [Hf0 Hf1]
  · iapply (slots_join c f0 f1)
    isplitl [Hf0] <;> iassumption
  iapply hs
  isplitl [Hsl] <;> iassumption

end Cert.K
-- ==== Proof.Deal.lean ====
module

public import proofs.«01_k».proof.Proof.Ends

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells and tokens at launch -/

/-- Different devices and names give different cells. -/
theorem kall_inj : Function.Injective fun x : Dev nD × Kx => kcell x.1 x.2 := by
  rintro ⟨c, x⟩ ⟨d, y⟩ h
  have h1 : c = d := congrArg (fun g : GSem nD τ sig => g.1.1) h
  have h2 : x = y := ksem_inj (congrArg Prod.snd h)
  rw [h1, h2]
def xcells : Finset (GSem nD τ sig) := Finset.univ.map ⟨fun x : Dev nD × Kx => kcell x.1 x.2, kall_inj⟩
/-- Different devices and names give different tokens. -/
theorem tok_inj : Function.Injective fun x : Dev nD × Kx => ((kcell x.1 x.2, 0, ()) : GSem nD τ sig × ℕ × Unit) :=
  fun x y h => kall_inj (congrArg Prod.fst h)
def xtoks : Finset (GSem nD τ sig × ℕ × Unit) := Finset.univ.map ⟨fun x : Dev nD × Kx => (kcell x.1 x.2, 0, ()), tok_inj⟩

def u₀ : UU :=
  (initOf (Pipeline.cells cfgs cellOf_inj) (Pipeline.launchToks cfgs cellOf_inj), (initOf xcells xtoks, (1 : Counters)))

/-- What each device holds of its own cells at launch. -/
def Gs (c : Dev nD) : sProp 𝕄 :=
  iprop((bigSep Finset.univ fun x : Kx => roundState ER (rd m) (kcell c x) 0) ∗ (bigSep Finset.univ fun x : Kx => reached ER (kcell c x) 0)
    ∗ (bigSep Finset.univ fun x : Kx => atPos ER (kcell c x) 0 ∅ 0) ∗ (bigSep Finset.univ fun x : Kx => dutyTok ER (kcell c x) 0 ()))

/-- The initial bookkeeping of the exchange gives each device what concerns its own cells. -/
theorem fund_x : BI.own (ER (initOf xcells xtoks)) ⊢ (|==> bigSep Finset.univ (Gs m) : sProp 𝕄) := by
  have hX (Φ : GSem nD τ sig → sProp 𝕄) : bigSep xcells Φ = bigSep Finset.univ fun c : Dev nD => bigSep Finset.univ fun x : Kx => Φ (kcell c x) := by
    unfold xcells; rw [bigSep_map, bigSep_univ_prod]; rfl
  have hT : bigSep xtoks (fun x => (dutyTok ER x.1 x.2.1 x.2.2 : sProp 𝕄))
      = bigSep Finset.univ fun c : Dev nD => bigSep Finset.univ fun x : Kx => dutyTok ER (kcell c x) 0 () := by
    unfold xtoks; rw [bigSep_map, bigSep_univ_prod]; rfl
  iintro HX
  imod (Rounds.fund ER (rd m) xcells xtoks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gs; simp only [bigSep_sep']
  isplitl [Hst]; · iexact Hst
  isplitl [Hr]; · iexact Hr
  isplitl [Hat] <;> iassumption

/-- The barrier's counter is the only one that outlives the kernel. -/
theorem bar_eq (c : Dev nD) : (unscopedSems0 c : sProp 𝕄) = semVal (Dev.tc (τ := τ) c, SemLoc.reg barrier0) 0 := by
  unfold unscopedSems0; rw [bigSep_eq_bigSepL_of_eq [SemLoc.reg barrier0] (by decide +kernel) (by decide)]; rfl

/-- The invariants of every cell, and that each one's only round is reached. -/
def recs (K : Dev nD × Kx → ℕ) : sProp 𝕄 :=
  iprop((bigSep Finset.univ fun x : Dev nD × Kx => cellInv ER (rd m) (K x) (kcell x.1 x.2)) ∗ (bigSep Finset.univ fun x : Dev nD × Kx => reached ER (kcell x.1 x.2) 0))
instance recs_persistent (K : Dev nD × Kx → ℕ) : BI.Persistent (recs m K) := by unfold recs; infer_instance

/-- The tokens of the duties device `c` pays. -/
def pays (c : Dev nD) : sProp 𝕄 :=
  iprop((bigSep Finset.univ fun j : Dev nD => dutyTok ER (rdyC j c) 0 ()) ∗ (bigSep Finset.univ fun j : Dev nD => dutyTok ER (sndC c j) 0 ())
    ∗ (bigSep Finset.univ fun j : Dev nD => dutyTok ER (rcvC j c) 0 ()))
/-- The other counters of device `c`. -/
def others (c : Dev nD) : sProp 𝕄 :=
  iprop(semVal (Dev.tc (τ := τ) c, SemLoc.reg barrier0) 0 ∗ semVal ((c : Thread nD τ), .dma locS) 0 ∗ semVal ((c : Thread nD τ), .dma (wS 0)) 0
    ∗ semVal ((c : Thread nD τ), .dma (wS 1)) 0)
def dealt (c : Dev nD) : sProp 𝕄 := iprop(others c ∗ (bigSep Finset.univ fun x : Kx => atPos ER (kcell c x) 0 ∅ 0) ∗ pays c)
/-- What device `c` starts with, of the exchange. -/
def Gd (c : Dev nD) : sProp 𝕄 := iprop((∃ K, recs m K) ∗ dealt c)

/-- All tokens, sorted by the device that owns the cell, are all tokens sorted by the device that pays. -/
theorem toks_deal : (bigSep Finset.univ fun c : Dev nD => bigSep Finset.univ fun x : Kx => (dutyTok ER (kcell c x) 0 () : sProp 𝕄))
    = bigSep Finset.univ fun c : Dev nD => pays c := by
  have e : ∀ c : Dev nD, (bigSep Finset.univ fun x : Kx => (dutyTok ER (kcell c x) 0 () : sProp 𝕄))
      = iprop((bigSep Finset.univ fun j : Dev nD => dutyTok ER (rdyC c j) 0 ()) ∗ (bigSep Finset.univ fun j : Dev nD => dutyTok ER (sndC c j) 0 ())
        ∗ (bigSep Finset.univ fun j : Dev nD => dutyTok ER (rcvC c j) 0 ())) := fun c => kx_eq _
  unfold pays
  rw [bigSep_congr fun c _ => e c, bigSep_sep', bigSep_sep', bigSep_sep', bigSep_sep',
    bigSep_univ_comm (fun c j : Dev nD => (dutyTok ER (rdyC c j) 0 () : sProp 𝕄)),
    bigSep_univ_comm (fun c j : Dev nD => (dutyTok ER (rcvC c j) 0 () : sProp 𝕄))]

/-- A device's cells at zero are put under their invariants. -/
theorem core_alloc (c : Dev nD) :
    iprop(Pipeline.ownSems0 osem c ∗ unscopedSems0 c ∗ Gs m c)
      ⊢ |={Set.univ}=> iprop((bigSep Finset.univ fun x : Kx => iprop(∃ κ : ℕ, cellInv ER (rd m) κ (kcell c x))) ∗ others c
          ∗ (bigSep Finset.univ fun x : Kx => reached ER (kcell c x) 0) ∗ (bigSep Finset.univ fun x : Kx => atPos ER (kcell c x) 0 ∅ 0)
          ∗ (bigSep Finset.univ fun x : Kx => dutyTok ER (kcell c x) 0 ())) := by
  unfold Gs others
  rw [own_eq, bar_eq]
  iintro ⟨⟨Hv, Hl, Hw0, Hw1⟩, Hb, Hst, Hr, Hat, Htok⟩
  imod (show iprop((bigSep Finset.univ fun x : Kx => semVal (kcell c x) 0) ∗ bigSep Finset.univ fun x : Kx => roundState ER (rd m) (kcell c x) 0)
      ⊢ (|={Set.univ}=> bigSep Finset.univ fun x : Kx => iprop(∃ κ : ℕ, cellInv ER (rd m) κ (kcell c x)) : sProp 𝕄) from by
        rw [← bigSep_sep']
        exact (bigSep_mono fun x _ => (Rounds.body_intro ER (rd m) (kcell c x)).trans inv_alloc).trans (bigSep_fupd _ _)) $$ [Hv Hst] with Hinv
  · isplitl [Hv] <;> iassumption
  imodintro
  isplitl [Hinv]; · iexact Hinv
  isplitl [Hl Hw0 Hw1 Hb]
  · isplitl [Hb]; · iexact Hb
    isplitl [Hl]; · iexact Hl
    isplitl [Hw0] <;> iassumption
  isplitl [Hr]; · iexact Hr
  isplitl [Hat] <;> iassumption

/-- What all devices hold, with every token handed to its payer, is what all devices start with. -/
theorem regroup :
    (bigSep Finset.univ fun c : Dev nD => iprop((bigSep Finset.univ fun x : Kx => iprop(∃ κ : ℕ, cellInv ER (rd m) κ (kcell c x))) ∗ others c
          ∗ (bigSep Finset.univ fun x : Kx => reached ER (kcell c x) 0) ∗ (bigSep Finset.univ fun x : Kx => atPos ER (kcell c x) 0 ∅ 0)
          ∗ (bigSep Finset.univ fun x : Kx => dutyTok ER (kcell c x) 0 ())) : sProp 𝕄)
      ⊢ bigSep Finset.univ (Gd m) := by
  have hd : iprop((bigSep Finset.univ fun c : Dev nD => (others c : sProp 𝕄)) ∗ (bigSep Finset.univ fun c : Dev nD => bigSep Finset.univ fun x : Kx => (atPos ER (kcell c x) 0 ∅ 0 : sProp 𝕄))
      ∗ bigSep Finset.univ fun c : Dev nD => (pays c : sProp 𝕄)) = bigSep Finset.univ fun c : Dev nD => (dealt c : sProp 𝕄) := by
    unfold dealt; rw [bigSep_sep', bigSep_sep']
  have hw : ∀ K, ∀ c ∈ (Finset.univ : Finset (Dev nD)), iprop(recs m K ∗ dealt c) ⊢ Gd m c := fun K c _ => by
    unfold Gd
    iintro ⟨H, Hd⟩
    isplitl [H]
    · iexists K; iexact H
    iexact Hd
  have hmain : ∀ K, iprop(recs m K ∗ bigSep Finset.univ fun c : Dev nD => (dealt c : sProp 𝕄)) ⊢ bigSep Finset.univ (Gd m) := fun K =>
    (sep_mono_left (BI.bigSep_of_persistent Finset.univ (recs m K))).trans (by rw [← bigSep_sep']; exact bigSep_mono (hw K))
  rw [bigSep_sep', bigSep_sep', bigSep_sep', bigSep_sep', toks_deal,
    ← bigSep_univ_prod (fun x : Dev nD × Kx => iprop(∃ κ : ℕ, cellInv ER (rd m) κ (kcell x.1 x.2))),
    ← bigSep_univ_prod (fun x : Dev nD × Kx => (reached ER (kcell x.1 x.2) 0 : sProp 𝕄))]
  iintro ⟨HI, Ho, Hr, Hat, Htok⟩
  ihave HK := (BI.bigSep_exists_pi Finset.univ (fun (x : Dev nD × Kx) (κ : ℕ) => (cellInv ER (rd m) κ (kcell x.1 x.2) : sProp 𝕄))) $$ HI
  icases HK with ⟨%K, HI⟩
  iapply (hmain K)
  isplitl [HI Hr]
  · unfold recs
    isplitl [HI] <;> iassumption
  iapply (Entails.of_eq hd)
  isplitl [Ho]; · iexact Ho
  isplitl [Hat] <;> iassumption

/-- Every cell's invariant is allocated, and every token goes to the device that pays its duty. -/
theorem glob : (bigSep Finset.univ fun c => iprop(Pipeline.ownSems0 osem c ∗ unscopedSems0 c ∗ Gs m c) : sProp 𝕄)
    ⊢ |={Set.univ}=> bigSep Finset.univ (Gd m) :=
  ((bigSep_mono fun c _ => core_alloc m c).trans (bigSep_fupd _ _)).trans (BI.fupd_mono (regroup m))

/-! ## The credit at launch -/

/-- A sum over the mesh from device 0 on is the sum over all devices. -/
theorem sum_dv {M : Type} [AddCommMonoid M] (f : Dev nD → M) : ∑ k ∈ Finset.Ico 0 32, f (dv k) = ∑ e : Dev nD, f e := by
  have h : (Finset.range 32).image (fun t => dv t) = Finset.univ := by decide +kernel
  have hi : ∀ a b : Fin 32, dv a.val = dv b.val → a = b := by decide +kernel
  rw [← h, Finset.sum_image fun a ha b hb e => congrArg Fin.val (hi ⟨a, Finset.mem_range.mp ha⟩ ⟨b, Finset.mem_range.mp hb⟩ e), Finset.range_eq_Ico]
/-- A sum in the order of sending is the sum over all devices. -/
theorem sum_tgt {M : Type} [AddCommMonoid M] (c : Dev nD) (f : Dev nD → M) : ∑ k ∈ Finset.Ico 0 32, f (tgt c k) = ∑ e : Dev nD, f e := by
  rw [← tgt_all c, Finset.sum_image fun a ha b hb e => congrArg Fin.val (tgt_inj c ⟨a, Finset.mem_range.mp ha⟩ ⟨b, Finset.mem_range.mp hb⟩ e), Finset.range_eq_Ico]

/-- Two cells are equal exactly if their devices and names are. -/
theorem cell_iff {c d : Dev nD} {x y : Kx} : kcell c x = kcell d y ↔ c = d ∧ x = y :=
  ⟨fun h => by have := kall_inj (a₁ := (c, x)) (a₂ := (d, y)) h; exact ⟨congrArg Prod.fst this, congrArg Prod.snd this⟩, fun ⟨h, h'⟩ => by rw [h, h']⟩

/-- A debt on one cell, looked up at another, is there or nothing. -/
theorem tally_cell (c d : Dev nD) (x y : Kx) (n : ℕ) : (tallyAt (kcell d y) () n : CellTallies nD τ sig Unit) (kcell c x) () = if c = d ∧ x = y then n else 0 := by
  rw [tallyAt_apply]
  by_cases h : c = d ∧ x = y
  · rw [if_pos h, if_pos ⟨cell_iff.mpr h, rfl⟩]
  · rw [if_neg h, if_neg fun h' => h (cell_iff.mp h'.1)]

/-- What a device owes a cell in ready signals: one unit if the cell waits for it. -/
theorem Ordy_at (d c : Dev nD) (x : Kx) : Ordy d 0 (kcell c x) () = if x = (0, d) then 1 else 0 := by
  unfold Ordy
  rw [sum_dv fun e => (tallyAt (rdyC e d) () 1 : CellTallies nD τ sig Unit), Finset.sum_apply, Finsupp.finset_sum_apply,
    Finset.sum_congr rfl fun e _ => (show (tallyAt (rdyC e d) () 1 : CellTallies nD τ sig Unit) (kcell c x) () = _ from tally_cell c e x (0, d) 1)]
  by_cases h : x = (0, d)
  · rw [if_pos h, Finset.sum_congr rfl fun e _ => (if_congr (and_iff_left h) rfl rfl : (if c = e ∧ x = (0, d) then 1 else 0) = if c = e then 1 else 0),
      Finset.sum_ite_eq Finset.univ c fun _ => 1, if_pos (Finset.mem_univ _)]
  · rw [if_neg h, Finset.sum_eq_zero fun e _ => if_neg fun h' => h h'.2]

/-- What a device owes a cell in blocks: one block if the cell waits for it on another device. -/
theorem Orcv_at (d c : Dev nD) (x : Kx) : Orcv d 0 (kcell c x) () = if x = (2, d) ∧ c ≠ d then N else 0 := by
  unfold Orcv
  rw [sum_tgt d fun e => if e = d then (0 : CellTallies nD τ sig Unit) else tallyAt (rcvC e d) () N, Finset.sum_apply, Finsupp.finset_sum_apply]
  have e1 : ∀ e : Dev nD, (if e = d then (0 : CellTallies nD τ sig Unit) else tallyAt (rcvC e d) () N) (kcell c x) ()
      = if c = e then (if x = (2, d) ∧ c ≠ d then N else 0) else 0 := by
    intro e
    by_cases h : e = d
    · rw [if_pos h]
      by_cases h' : c = e
      · rw [if_pos h', if_neg fun h2 => h2.2 (h'.trans h)]; rfl
      · rw [if_neg h']; rfl
    · rw [if_neg h]
      refine (tally_cell c e x (2, d) N).trans ?_
      by_cases h' : c = e
      · rw [if_pos h']
        by_cases h2 : x = (2, d)
        · rw [if_pos ⟨h', h2⟩, if_pos ⟨h2, fun h3 => h (h'.symm.trans h3)⟩]
        · rw [if_neg fun h3 => h2 h3.2, if_neg fun h3 => h2 h3.1]
      · rw [if_neg h', if_neg fun h3 => h' h3.1]
  rw [Finset.sum_congr rfl fun e _ => e1 e, Finset.sum_ite_eq Finset.univ c, if_pos (Finset.mem_univ _)]

/-- All that a device owes a cell at the start. -/
theorem owed_at (d c : Dev nD) (x : Kx) : O₀ d (kcell c x) () = (if x = (0, d) then 1 else 0) + if x = (2, d) ∧ c ≠ d then N else 0 := by
  unfold O₀
  rw [Pi.add_apply, Finsupp.add_apply, Ordy_at, Orcv_at]

/-- The credit for a ready wait at launch is one unit. -/
theorem launch_rdy (c j : Dev nD) :
    tallyOn (rdyC c j) (launchCredit (Pipeline.owing O₀) 0 (rdyC c j)) = (tallyAt (rdyC c j) () 1 : CellTallies nD τ sig Unit) := by
  unfold tallyAt; refine congrArg _ (Finsupp.ext fun u => ?_); cases u
  have e : ∀ d : Dev nD, O₀ d (rdyC c j) () = if j = d then 1 else 0 := fun d => by
    refine (owed_at d c (0, j)).trans ?_
    have hz : (if ((0, j) : Kx) = (2, d) ∧ c ≠ d then N else 0) = 0 :=
      if_neg fun h => absurd (show (0 : Fin 3) = 2 from congrArg Prod.fst h.1) (by decide)
    rw [hz, Nat.add_zero]
    by_cases h : j = d
    · rw [if_pos h, if_pos (by rw [h])]
    · rw [if_neg h, if_neg fun h' => h (congrArg Prod.snd h')]
  rw [Pipeline.launchCredit_owing, Finsupp.single_eq_same, Finset.sum_congr rfl fun d _ => e d, Finset.sum_ite_eq Finset.univ j fun _ => 1, if_pos (Finset.mem_univ _)]

/-- The credit for a receive wait at launch is one block. -/
theorem launch_rcv (c j : Dev nD) (hj : j ≠ c) :
    tallyOn (rcvC c j) (launchCredit (Pipeline.owing O₀) 0 (rcvC c j)) = (tallyAt (rcvC c j) () N : CellTallies nD τ sig Unit) := by
  unfold tallyAt; refine congrArg _ (Finsupp.ext fun u => ?_); cases u
  have e : ∀ d : Dev nD, O₀ d (rcvC c j) () = if j = d then N else 0 := fun d => by
    refine (owed_at d c (2, j)).trans ?_
    have hz : (if ((2, j) : Kx) = (0, d) then 1 else 0) = 0 :=
      if_neg fun h => absurd (show (2 : Fin 3) = 0 from congrArg Prod.fst h) (by decide)
    rw [hz, Nat.zero_add]
    by_cases h : j = d
    · rw [if_pos h, if_pos ⟨by rw [h], fun h' => hj (h.trans h'.symm)⟩]
    · rw [if_neg h, if_neg fun h' => h (congrArg Prod.snd h'.1)]
  rw [Pipeline.launchCredit_owing, Finsupp.single_eq_same, Finset.sum_congr rfl fun d _ => e d, Finset.sum_ite_eq Finset.univ j fun _ => N, if_pos (Finset.mem_univ _)]

/-- A device starts with the credit for every ready unit and every block it will receive. -/
theorem creds (c : Dev nD) : (Pipeline.launchCred O₀ c : sProp 𝕄)
    ⊢ iprop((bigSep Finset.univ fun j : Dev nD => cred (tallyAt (rdyC c j) () 1)) ∗ bigSep (Finset.Ico 1 32) fun t => cred (tallyAt (rcvC c (dv (c.val + t))) () N)) := by
  have h0 : (Pipeline.launchCred O₀ c : sProp 𝕄) ⊢ bigSep Finset.univ fun x : Kx => cred (tallyOn (kcell c x) (launchCredit (Pipeline.owing O₀) 0 (kcell c x))) := by
    unfold Pipeline.launchCred
    have e := bigSep_map (s := (Finset.univ : Finset Kx)) ⟨ksem, ksem_inj⟩
      (Φ := fun sm : SemLoc sig => (cred (tallyOn ((c : Thread nD τ), sm) (launchCredit (Pipeline.owing O₀) 0 ((c : Thread nD τ), sm))) : sProp 𝕄))
    have h := bigSep_subset (Finset.subset_univ (Finset.univ.map ⟨ksem, ksem_inj⟩))
      (Φ := fun sm : SemLoc sig => (cred (tallyOn ((c : Thread nD τ), sm) (launchCredit (Pipeline.owing O₀) 0 ((c : Thread nD τ), sm))) : sProp 𝕄))
    rw [e] at h
    exact h
  have h1 : (bigSep Finset.univ fun x : Kx => (cred (tallyOn (kcell c x) (launchCredit (Pipeline.owing O₀) 0 (kcell c x))) : sProp 𝕄))
      = iprop((bigSep Finset.univ fun j : Dev nD => cred (tallyAt (rdyC c j) () 1))
        ∗ (bigSep Finset.univ fun j : Dev nD => cred (tallyOn (sndC c j) (launchCredit (Pipeline.owing O₀) 0 (sndC c j))))
        ∗ (cred (tallyOn (rcvC c c) (launchCredit (Pipeline.owing O₀) 0 (rcvC c c)))
          ∗ bigSep (Finset.Ico 1 32) fun t => cred (tallyAt (rcvC c (dv (c.val + t))) () N))) := by
    refine (kx_eq _).trans ?_
    rw [around c fun j => cred (tallyOn (kcell c (2, j)) (launchCredit (Pipeline.owing O₀) 0 (kcell c (2, j))))]
    have e1 : (bigSep Finset.univ fun j : Dev nD => (cred (tallyOn (kcell c (0, j)) (launchCredit (Pipeline.owing O₀) 0 (kcell c (0, j)))) : sProp 𝕄))
        = bigSep Finset.univ fun j : Dev nD => cred (tallyAt (rdyC c j) () 1) := bigSep_congr fun j _ => congrArg cred (launch_rdy c j)
    have e2 : (bigSep (Finset.Ico 1 32) fun t => (cred (tallyOn (kcell c (2, dv (c.val + t))) (launchCredit (Pipeline.owing O₀) 0 (kcell c (2, dv (c.val + t))))) : sProp 𝕄))
        = bigSep (Finset.Ico 1 32) fun t => cred (tallyAt (rcvC c (dv (c.val + t))) () N) :=
      bigSep_congr fun t ht => congrArg cred (launch_rcv c _ (dv_add_ne c t (Finset.mem_Ico.mp ht).1 (Finset.mem_Ico.mp ht).2))
    rw [e1, e2]; rfl
  refine h0.trans ?_
  rw [h1]
  have h2 : ∀ A B C D : sProp 𝕄, iprop(A ∗ B ∗ C ∗ D) ⊢ iprop(A ∗ D) := fun A B C D => by
    iintro ⟨HA, -, -, HD⟩
    isplitl [HA] <;> iassumption
  exact h2 _ _ _ _

end Cert.K
-- ==== Proof.Start.lean ====
module

public import proofs.«01_k».proof.Proof.Deal

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the first point needs -/

/-- Something for each turn of the ready signals is something for each device. -/
theorem dv_turn (g : Dev nD → sProp 𝕄) : bigSep (Finset.Ico 0 32) (fun k => g (dv k)) = bigSep Finset.univ g := by
  have h : (Finset.range 32).image (fun t => dv t) = Finset.univ := by decide +kernel
  have hi : ∀ a b : Fin 32, dv a.val = dv b.val → a = b := by decide +kernel
  rw [← Finset.range_eq_Ico, ← h]
  refine (bigSep_image_of_injOn (fun a ha b hb e => ?_) g).symm
  exact congrArg Fin.val (hi ⟨a, Finset.mem_range.mp ha⟩ ⟨b, Finset.mem_range.mp hb⟩ e)

/-- What a device starts with makes up all that its sendings take. -/
theorem todo_start (c : Dev nD) : iprop((bigSep Finset.univ fun d => iprop(∃ f, slabP (F := F) c d f))
    ∗ ((∃ f, rowP (F := F) c c f) ∗ semVal ((c : Thread nD τ), .dma locS) 0)
    ∗ (bigSep (Finset.Ico 1 32) fun t => atPos ER (rdyC c (dv (c.val + t))) 0 ∅ 0)
    ∗ (bigSep (Finset.Ico 1 32) fun t => cred (tallyAt (rdyC c (dv (c.val + t))) () 1))
    ∗ (bigSep (Finset.Ico 1 32) fun t => dutyTok ER (sndC c (dv (c.val + t))) 0 ())
    ∗ (bigSep (Finset.Ico 1 32) fun t => dutyTok ER (rcvC (dv (c.val + t)) c) 0 ())) ⊢ todo (F := F) c 0 := by
  have e1 : todo (F := F) c 0 = bigSep Finset.univ (Todo c) := by
    unfold todo; rw [← Finset.range_eq_Ico]; exact turns c (Todo c)
  have e2 : bigSep (Finset.Ico 1 32) (fun t => xtra (F := F) c (dv (c.val + t))) = bigSep (Finset.Ico 1 32) fun t => sendTok c (dv (c.val + t)) :=
    bigSep_congr fun t ht => if_neg (dv_add_ne c t (Finset.mem_Ico.mp ht).1 (Finset.mem_Ico.mp ht).2)
  have e3 : xtra (F := F) c c = iprop((∃ f, rowP c c f) ∗ semVal ((c : Thread nD τ), .dma locS) 0) := if_pos rfl
  rw [e1]
  unfold Todo
  rw [bigSep_sep', around c (xtra c), e2, e3]
  unfold sendTok
  rw [bigSep_sep', bigSep_sep', bigSep_sep']

/-- What a device starts with makes up all that its ready signals take. -/
theorem rdys_start (c : Dev nD) : iprop((bigSep Finset.univ fun j => dutyTok ER (rdyC j c) 0 ())
    ∗ (bigSep (Finset.Ico 1 32) fun t => iprop(∃ f, rowP (F := F) c (dv (c.val + t)) f))) ⊢ rdys (F := F) c 0 := by
  have e1 : rdys (F := F) c 0 = bigSep Finset.univ fun j => iprop(dutyTok ER (rdyC j c) 0 () ∗ (if c = j then iprop(emp) else iprop(∃ f, rowP (F := F) c j f))) := by
    unfold rdys; exact dv_turn fun j => iprop(dutyTok ER (rdyC j c) 0 () ∗ (if c = j then iprop(emp) else iprop(∃ f, rowP (F := F) c j f)))
  have e2 : bigSep (Finset.Ico 1 32) (fun t => if c = dv (c.val + t) then iprop(emp) else iprop(∃ f, rowP (F := F) c (dv (c.val + t)) f))
      = bigSep (Finset.Ico 1 32) fun t => iprop(∃ f, rowP (F := F) c (dv (c.val + t)) f) :=
    bigSep_congr fun t ht => if_neg fun h => dv_add_ne c t (Finset.mem_Ico.mp ht).1 (Finset.mem_Ico.mp ht).2 h.symm
  rw [e1, bigSep_sep', around c fun j => if c = j then iprop(emp) else iprop(∃ f, rowP (F := F) c j f), e2, if_pos rfl]
  iintro ⟨H1, H2⟩
  isplitl [H1]; · iexact H1
  isplitr; · iempintro
  iexact H2

/-- What device `c` brings into the kernel. -/
def Brings (c : Dev nD) : sProp 𝕄 :=
  iprop(Gd m c ∗ levAts L lv ∗ Pipeline.launchCred O₀ c ∗ (((c : Thread nD τ).loc main_arg1) ↦{fullShare} win m c)
    ∗ (((c : Thread nD τ).loc main_v1) ↦{fullShare} m ((c : Thread nD τ).loc main_v1)))

/-- The state before the first grid point, written out. -/
theorem state_zero (c : Dev nD) : (dats m 0 c).Φ 0 = iprop((∃ K, ctx m K) ∗ semVal (Dev.tc (τ := τ) c, SemLoc.reg barrier0) 0 ∗ (idle m c 0 ∗ idle m c 1) ∗ todo c 0 ∗ iprop(emp) ∗ pend c
      ∗ rdys c 0 ∗ ∃ f, x8P c f) := by
  show state m c 0 = _
  unfold state win0
  rw [if_pos (by decide), if_pos rfl, if_pos rfl]; rfl

/-- What a device brings and its scratch buffers make up the state before the first grid point. -/
theorem starts (c : Dev nD) : iprop(Brings m c ∗ Pipeline.scopedRest spec0 c) ⊢ (dats m 0 c).Φ 0 := by
  have hat : (bigSep Finset.univ fun x : Kx => (atPos ER (kcell c x) 0 ∅ 0 : sProp 𝕄))
      = iprop((atPos ER (rdyC c c) 0 ∅ 0 ∗ bigSep (Finset.Ico 1 32) fun t => atPos ER (rdyC c (dv (c.val + t))) 0 ∅ 0)
        ∗ (atPos ER (sndC c c) 0 ∅ 0 ∗ bigSep (Finset.Ico 1 32) fun t => atPos ER (sndC c (dv (c.val + t))) 0 ∅ 0)
        ∗ (atPos ER (rcvC c c) 0 ∅ 0 ∗ bigSep (Finset.Ico 1 32) fun t => atPos ER (rcvC c (dv (c.val + t))) 0 ∅ 0)) := by
    refine (kx_eq _).trans ?_
    rw [around c fun j => atPos ER (kcell c (0, j)) 0 ∅ 0, around c fun j => atPos ER (kcell c (1, j)) 0 ∅ 0, around c fun j => atPos ER (kcell c (2, j)) 0 ∅ 0]
    rfl
  have hrow : ∀ f, (((c : Thread nD τ).loc main_v1) ↦{fullShare} f : sProp 𝕄)
      ⊢ iprop((∃ f, rowP (F := F) c c f) ∗ bigSep (Finset.Ico 1 32) fun t => iprop(∃ f, rowP (F := F) c (dv (c.val + t)) f)) := fun f => by
    have h1 : ∀ j : Dev nD, rowP c j f ⊢ iprop(∃ f, rowP (F := F) c j f) := fun j => by
      iintro H; iexists f; iexact H
    have h2 : (bigSep Finset.univ fun j => rowP c j f) ⊢ bigSep Finset.univ fun j => iprop(∃ f, rowP (F := F) c j f) := bigSep_mono fun j _ => h1 j
    rw [around c fun j => iprop(∃ f, rowP (F := F) c j f), ← rows_eq] at h2
    exact h2
  have hslab : ∀ f, (((c : Thread nD τ).loc cc0_scratch2) ↦{fullShare} f : sProp 𝕄) ⊢ bigSep Finset.univ fun d => iprop(∃ f, slabP (F := F) c d f) := fun f => by
    have h1 : ∀ j : Dev nD, slabP c j f ⊢ iprop(∃ f, slabP (F := F) c j f) := fun j => by
      iintro H; iexists f; iexact H
    rw [slabs_eq]
    exact bigSep_mono fun j _ => h1 j
  have hcr := creds (F := F) c
  rw [around c fun j => cred (tallyAt (rdyC c j) () 1)] at hcr
  have htok : (pays (F := F) c) ⊢ iprop((bigSep Finset.univ fun j : Dev nD => dutyTok ER (rdyC j c) 0 ())
      ∗ (bigSep (Finset.Ico 1 32) fun t => dutyTok ER (sndC c (dv (c.val + t))) 0 ()) ∗ (bigSep (Finset.Ico 1 32) fun t => dutyTok ER (rcvC (dv (c.val + t)) c) 0 ())) := by
    unfold pays
    rw [around c fun j => dutyTok ER (sndC c j) 0 (), around c fun j => dutyTok ER (rcvC j c) 0 ()]
    iintro ⟨H1, ⟨-, H2⟩, -, H3⟩
    isplitl [H1]; · iexact H1
    isplitl [H2] <;> iassumption
  have hrp : iprop((bigSep (Finset.Ico 1 32) fun t => atPos ER (rcvC c (dv (c.val + t))) 0 ∅ 0) ∗ bigSep (Finset.Ico 1 32) fun t => cred (tallyAt (rcvC c (dv (c.val + t))) () N))
      = bigSep (Finset.Ico 1 32) (RP (F := F) c) := by
    unfold RP; rw [bigSep_sep']
  rw [state_zero, scopedRest0_eq]
  unfold Brings Gd dealt others
  rw [hat]
  unfold idle pend
  iintro ⟨⟨⟨⟨%K, HK⟩, ⟨Hb, Hl, Hw0, Hw1⟩, ⟨⟨Ha0, Ha⟩, ⟨Hs0, Hs⟩, Hv0, Hv⟩, Ht⟩, Hlv, Hcr, HW, Ho⟩, Hx, ⟨%fw, Hf⟩, %fb, Hbk⟩
  ihave Hcr := hcr $$ Hcr
  icases Hcr with ⟨⟨Hc0, Hc⟩, Hcv⟩
  ihave Ht := htok $$ Ht
  icases Ht with ⟨Htr, Hts, Htv⟩
  ihave Ho := (hrow _) $$ Ho
  icases Ho with ⟨Ho0, Ho⟩
  ihave Hbk := (hslab fb) $$ Hbk
  ihave HW := (halves m c).1 $$ HW
  icases HW with ⟨HW0, HW1⟩
  ihave Hf := (Entails.of_eq (slots_two c fw)) $$ Hf
  icases Hf with ⟨Hf0, Hf1⟩
  isplitl [HK Hlv]
  · iexists K
    unfold recs ctx
    icases HK with ⟨H1, H2⟩
    isplitl [H1]; · iexact H1
    isplitl [H2] <;> iassumption
  isplitl [Hb]; · iexact Hb
  isplitl [Hf0 Hf1 HW0 HW1 Hw0 Hw1]
  · isplitl [Hf0 HW0 Hw0]
    · isplitl [Hf0]; · iexists fw; iexact Hf0
      isplitl [HW0] <;> iassumption
    isplitl [Hf1]; · iexists fw; iexact Hf1
    isplitl [HW1] <;> iassumption
  isplitl [Hbk Ho0 Hl Ha Hc Hts Htv]
  · iapply (todo_start (F := F) c)
    isplitl [Hbk]; · iexact Hbk
    isplitl [Ho0 Hl]; · isplitl [Ho0] <;> iassumption
    isplitl [Ha]; · iexact Ha
    isplitl [Hc]; · iexact Hc
    isplitl [Hts] <;> iassumption
  isplitr; · iempintro
  isplitl [Ha0 Hc0 Hs0 Hv0 Hv Hcv Hs]
  · isplitl [Ha0 Hc0]; · isplitl [Ha0] <;> iassumption
    isplitl [Hs0 Hv0]; · isplitl [Hs0] <;> iassumption
    isplitl [Hv Hcv]
    · iapply (Entails.of_eq hrp)
      isplitl [Hv] <;> iassumption
    iexact Hs
  isplitl [Htr Ho]
  · iapply (rdys_start (F := F) c)
    isplitl [Htr] <;> iassumption
  icases Hx with ⟨%fx, Hx⟩
  iexists fx
  unfold x8P
  iexact Hx

end Cert.K
-- ==== Proof.Run.lean ====
module

public import proofs.«01_k».proof.Proof.Start

@[expose] public section

set_option maxRecDepth 60000

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

local notation "𝔻" => Pipeline.defs (pcfgs (F := F)) (defs₀ (F := F))
local notation "𝕍" => Variants.lift 𝒱₀

/-! ## The host operation after the kernel -/

/-- The result after the host's widening. -/
def outF (c : Dev nD) : (⟨S4096x64, .f32⟩ : BufTy).Contents (Elt F) :=
  extf .f32 (outv m c : (⟨S4096x64, .bf16⟩ : BufTy).Contents (Elt F)) bitsLt_bf16_f32

/-- The kernel's result and the host's. -/
abbrev r1 : DevRef τ sig := Proc.devRef .tc main_v1
abbrev r2 : DevRef τ sig := Proc.devRef .tc main_v2

/-- The two buffers the host operation names. -/
def hostBufs : Finset (DevRef τ sig) := {r1, r2}

/-- The launch memory with the kernel's result in place. -/
def Vh (c : Dev nD) : Valuation τ sig (Elt F) :=
  Function.update (fun b => m (c, b)) r1 (outv m c : (⟨S4096x64, .bf16⟩ : BufTy).Contents (Elt F))

/-- The host's result is not the kernel's. -/
theorem v2_ne_v1 : r2 ≠ r1 := by decide

/-- Holding the host's buffers is holding the kernel's result and the host's. -/
theorem held_two (c : Dev nD) (W : Valuation τ sig (Elt F)) :
    (StableHlo.held (c.tc : Thread nD τ) hostBufs W : sProp 𝕄)
      = iprop((((c : Thread nD τ).loc main_v1) ↦{fullShare} W r1) ∗ (((c : Thread nD τ).loc main_v2) ↦{fullShare} W r2)) := by
  unfold StableHlo.held
  rw [bigSep_eq_bigSepL_of_eq [r1, r2] (by decide) (by decide)]; rfl

/-- Before the host's conversion the first buffer holds the kernel's result. -/
theorem Vh_1 (c : Dev nD) : Vh m c r1 = (outv m c : (⟨S4096x64, .bf16⟩ : BufTy).Contents (Elt F)) := Function.update_self _ _ _
/-- Before the host's conversion the second buffer holds what it held at launch. -/
theorem Vh_2 (c : Dev nD) : Vh m c r2 = m ((c : Thread nD τ).loc main_v2) := Function.update_of_ne v2_ne_v1 _ _

/-- The host's conversion leaves the kernel's result. -/
theorem after_1 (c : Dev nD) : StableHlo.after (hostOps1 (F := F)) (Vh m c) r1 = (outv m c : (⟨S4096x64, .bf16⟩ : BufTy).Contents (Elt F)) := by
  rw [StableHlo.after_cons, StableHlo.after_nil, StableHlo.unary_result_ne (h := show main_v1 ≠ main_v2 by decide), Vh_1]
/-- The host's conversion writes the converted result. -/
theorem after_2 (c : Dev nD) : StableHlo.after (hostOps1 (F := F)) (Vh m c) r2 = outF m c := by
  rw [StableHlo.after_cons, StableHlo.after_nil, StableHlo.unary_result, Vh_1]; rfl

/-- The program is the kernel and then the host's conversion. -/
theorem main_eq (c : Dev nD) : main (F := F) c = .op (.customCall (Pipeline.entry 0) ()) fun _ => (StableHlo.seq hostOps1 >>= fun _ => .ret ⟨⟩) :=
  (main_chain c).trans rfl

/-- The host operation writes the widened result. -/
theorem wp_host (c : Dev nD) (Q : PUnit → sProp 𝕄) :
    iprop(boundary (c.tc : Thread nD τ) ∗ (((c : Thread nD τ).loc main_v1) ↦{fullShare} (outv m c : Buf (Elt F) ((c : Thread nD τ).loc main_v1)))
        ∗ (((c : Thread nD τ).loc main_v2) ↦{fullShare} m ((c : Thread nD τ).loc main_v2)))
      ⊢ iprop(((boundary (c.tc : Thread nD τ) ∗ (((c : Thread nD τ).loc main_v1) ↦{fullShare} (outv m c : Buf (Elt F) ((c : Thread nD τ).loc main_v1)))
          ∗ (((c : Thread nD τ).loc main_v2) ↦{fullShare} (outF m c : Buf (Elt F) ((c : Thread nD τ).loc main_v2)))) -∗ |={Set.univ}=> Q ⟨⟩)
        -∗ wp frame (wpE 𝔻 𝕍 (c.tc : Thread nD τ) none) Set.univ (StableHlo.seq hostOps1 >>= fun _ => .ret ⟨⟩) Q) := by
  have h := StableHlo.wp_seq (defs := 𝔻) (𝒱 := 𝕍) (bd := none) (E := Set.univ) (Ix := Unit) (Name := ℕ) (U := UU) (Lvl := ℕ) c hostBufs (fun _ => .ret ⟨⟩) (K := Q)
    (hostOps1 (F := F)) (fun op hop => by rw [List.mem_singleton.mp hop]; exact (StableHlo.unary_bufs ..).le) (fun op hop => by rw [List.mem_singleton.mp hop]; rfl) (Vh m c)
  rw [held_two, held_two, Vh_1, Vh_2, after_1, after_2, wp_ret] at h
  exact h

/-! ## One device's run -/

/-- The kernel's own buffers are the staging buffers and the scratch buffers. -/
theorem bufs_eq (c : Dev nD) : (scopedBufs (c.tc : Thread nD τ) : sProp 𝕄) = iprop(Dat.staging cfg0 c ∗ Pipeline.scopedRest spec0 c) :=
  Pipeline.scopedBufs_split cfgs 0 winFacts0.stage_scoped winFacts0.stage_inj stage_whole0 c
/-- The scoped cells the kernel does not name. -/
def idleR (c : Dev nD) : sProp 𝕄 := Pipeline.idleSems0 cfgs cellOf_inj 0 osemFacts c
/-- The kernel's own counters are those of its windows, those of its body and unused ones. -/
theorem sems_eq (c : Dev nD) : (scopedSems0 (c.tc : Thread nD τ) : sProp 𝕄) = iprop((Pipeline.cellsSems0 cfgs 0 c ∗ Pipeline.ownSems0 osem c) ∗ idleR c) :=
  Pipeline.scopedSems0_split cfgs cellOf_inj 0 winFacts0.to₀ osemFacts c

/-- The arrays the pipeline stages. -/
def arrs (c : Dev nD) : sProp 𝕄 :=
  bigSep Finset.univ fun w : Fin 3 => (((c : Thread nD τ).loc (Pipeline.arrRef spec0 w)) ↦{fullShare} V m c (Pipeline.arrRef spec0 w))

/-- What a device holds before `main`. -/
def Before (c : Dev nD) : sProp 𝕄 :=
  iprop(scopedBufs (c.tc : Thread nD τ) ∗ Pipeline.cellsSems0 cfgs 0 c ∗ idleR c ∗ opIdle (c.tc : Thread nD τ) ∗ unscopedBufs c (V m c)
    ∗ owes (c.tc : Thread nD τ) (O₀ c) ∅ ∗ levAts L lv ∗ Pipeline.launchCred O₀ c ∗ Pipeline.cellsGhost cfgs EP 0 c ∗ Pipeline.toksInit cfgs EP 0 c ∗ Gd m c)

/-- What it holds after `main`. -/
def After (c : Dev nD) : sProp 𝕄 :=
  iprop(arrs m c ∗ (((c : Thread nD τ).loc main_arg1) ↦{fullShare} win m c)
    ∗ (((c : Thread nD τ).loc main_v2) ↦{fullShare} (outF m c : Buf (Elt F) ((c : Thread nD τ).loc main_v2)))
    ∗ semVal (Dev.tc (τ := τ) c, SemLoc.reg barrier0) 0 ∗ scopedSems0 (c.tc : Thread nD τ))

/-- The windows' arrays before the kernel are the inputs at launch. -/
theorem arrs_start (c : Dev nD) : (dats m 0 c).arrays ((dats m 0 c).arrAt · 0) = arrs m c :=
  (Pipeline.arrays_eq cfgs (dats m) 0 c arr_whole0 (share_eq m c) _).trans rfl
/-- The windows' arrays after the kernel are the inputs at launch. -/
theorem arrs_end (c : Dev nD) : (dats m 0 c).arrays ((dats m 0 c).arrAt · cfg0.N) = arrs m c := by
  refine (Pipeline.arrays_eq cfgs (dats m) 0 c arr_whole0 (share_eq m c) _).trans ?_
  unfold arrs
  refine bigSep_congr fun w _ => ?_
  have h : (dats m 0 c).arrAt w cfg0.N = V m c (Pipeline.arrRef spec0 w) :=
    (dats m 0 c).arrAt_in w (by fin_cases w <;> rfl) _
  rw [h]

/-- The buffers that outlive the kernel are the inputs, the kernel's result and the host's. -/
theorem unscoped_eq (c : Dev nD) : (unscopedBufs c (V m c) : sProp 𝕄)
    = iprop(arrs m c ∗ (((c : Thread nD τ).loc main_arg1) ↦{fullShare} win m c) ∗ (((c : Thread nD τ).loc main_v1) ↦{fullShare} m ((c : Thread nD τ).loc main_v1))
      ∗ (((c : Thread nD τ).loc main_v2) ↦{fullShare} m ((c : Thread nD τ).loc main_v2))) := by
  have h := Pipeline.unscopedBufs_split (Ix := Unit) (Name := ℕ) (U := UU) (Lvl := ℕ) cfgs 0 winFacts0.arr_unscoped winFacts0.arr_inj c (V m c)
  have h2 : (Pipeline.unscopedRest (cfgs 0).spec c (V m c) : sProp 𝕄) = _ := unscopedRest0_eq c (V m c)
  rw [h2] at h
  exact h

/-- The windows' waits are allowed: all that is owed sits above the level of their cells. -/
theorem waits (c : Dev nD) : (levAts L lv : sProp 𝕄) ⊢ Pipeline.cellsWaits cfgs (dats m) () 0 c :=
  Pipeline.cellsWaits_intro cfgs (dats m) () 0 c fun w s t => by
    refine mayWait_of 1 (le_of_eq_of_le (lv_other c _ ?_ ?_ ()) (Nat.zero_le 1)) ?_
    · exact fun x => ksem_stage x w s
    · intro h; cases h
    · show Above 1 (if t.val = 0 then O₀ c else Orcv c (4 * t.val))
      split
      · exact above_O0 c
      · exact above_Orcv c _ (by decide)

/-- The end of the kernel gives the result and all that was the kernel's own back. -/
theorem out_of (c : Dev nD) : iprop((dats m 0 c).Φ (Fin.last cfg0.N) ∗ Pipeline.cellsSems0 cfgs 0 c ∗ Dat.staging cfg0 c ∗ idleR c)
    ⊢ iprop(Left m c ∗ scopedSems0 (c.tc : Thread nD τ) ∗ scopedBufs (c.tc : Thread nD τ)) := by
  rw [sems_eq c, bufs_eq c]
  iintro ⟨HΦ, Hcells, Hst, Hidle⟩
  ihave H := (ends m c) $$ HΦ
  icases H with ⟨HY, Hos, Hrest⟩
  isplitl [HY]; · iexact HY
  isplitl [Hcells Hos Hidle]
  · isplitl [Hcells Hos]; · isplitl [Hcells] <;> iassumption
    iexact Hidle
  isplitl [Hst] <;> iassumption

/-- The kernel's windows are prefetched by no table. -/
theorem pref (c : Dev nD) (q) (a) : (Pipeline.prefHeld (Ix := Unit) (Name := ℕ) (U := UU) (Lvl := ℕ) ((pcfgs (F := F)) 0).pre c q a : sProp 𝕄) = BI.emp := by
  unfold Pipeline.prefHeld
  exact BI.bigSep_empty

/-- What a device brings starts the kernel. -/
theorem in_of (c : Dev nD) (q) (a) : iprop(Brings m c ∗ Pipeline.prefHeld ((pcfgs (F := F)) 0).pre c q a ∗ Pipeline.scopedRest spec0 c) ⊢ (dats m 0 c).Φ 0 := by
  rw [pref]
  iintro ⟨H, -, H2⟩
  iapply (starts m c)
  isplitl [H] <;> iassumption

/-- The program on one device goes from what the device holds before it to what it holds after it. -/
theorem wp_main (c : Dev nD) : Before m c
    ⊢ wp frame (wpE 𝔻 𝕍 (c.tc : Thread nD τ) none) Set.univ (main c) (fun _ => post (liftTc (After m) BI.emp) (c.tc : Thread nD τ)) := by
  have hpost : Pipeline.EntryPost cfgs (dats m) () 0 c ⊢ iprop(arrs m c ∗ ∃ W, owes (c.tc : Thread nD τ) (0 : CellTallies nD τ sig Unit) W) := by
    unfold Pipeline.EntryPost Pipeline.PerCore.EntryPost Dat.owesAt Pipeline.owesWithin
    rw [show (dats m 0 c).arrays ((dats m 0 c).arrAt · (cfgs 0).N) = arrs m c from arrs_end m c,
      show (dats m 0 c).owed (Fin.last (cfgs 0).N) = 0 from Orcv_end c]
    iintro ⟨Ha, ⟨%W, -, HW⟩⟩
    isplitl [Ha]; · iexact Ha
    iexists W; iexact HW
  unfold Before
  rw [main_eq c, unscoped_eq]
  iintro ⟨Hsc, Hcells, Hidle, Hidl, ⟨Harr, H1, Ho, H2⟩, HL, #Hla, Hcr, Hg, Ht, HG⟩
  ihave Hw := (waits m c) $$ Hla
  iapply (fupd_wp frame (wpE 𝔻 𝕍 (c.tc : Thread nD τ) none) Set.univ _ _)
  imod (Pipeline.cellsInit_alloc cfgs (dats m) EP cellOf_inj 0 c) $$ [Hcells Hg] with ⟨%κ, -, Hinit⟩
  · isplitl [Hcells] <;> iassumption
  imodintro
  iapply (Pipeline.wp_customCall_entry_frame (pcfgs (F := F)) (fun p => (cfgs p).toPCfg_adm) (dats m) () EP κ cellOf_inj 0 (defs₀ (F := F)) 𝒱₀ (fun _ => fullShare.right) c Set.univ
      (fun _ _ => Set.mem_univ _) (body_obligation m c).loose block_pos0 none (fun u h => nomatch h)
      (X := Brings m c) (Y := Left m c) (R := Pipeline.scopedRest spec0 c) (I := idleR c)
      (Entails.of_eq (bufs_eq c)) (in_of m c _ _) (out_of m c)
      (k := fun _ => (StableHlo.seq hostOps1 >>= fun _ => .ret ⟨⟩)) (Q := fun _ => post (liftTc (After m) BI.emp) (c.tc : Thread nD τ)))
    $$ [Harr HL Hinit Ht H1 Ho Hcr HG Hidle Hsc Hw]
  · isplitl [Harr HL Hinit Ht Hw]
    · unfold Pipeline.EntryPre Pipeline.PerCore.EntryPre Dat.owesAt Pipeline.owesWithin
      isplitl [Harr]; · iapply (Entails.of_eq (arrs_start m c).symm); iexact Harr
      isplitl [HL]
      · iexists ∅; isplitr; · ipureintro; rw [Finset.coe_empty]; exact Set.empty_subset _
        iexact HL
      isplitl [Hw]; · iexact Hw
      isplitl [Hinit] <;> iassumption
    isplitr; · iapply (Entails.of_eq (pref c _ _).symm); iempintro
    isplitl [H1 Ho Hcr HG]
    · unfold Brings
      isplitl [HG]; · iexact HG
      isplitr; · iexact Hla
      isplitl [Hcr]; · iexact Hcr
      isplitl [H1] <;> iassumption
    isplitl [Hidle]; · iexact Hidle
    iexact Hsc
  iintro ⟨Hpost, HY, Hss2, Hsc2⟩
  ihave Hp := hpost $$ Hpost
  icases Hp with ⟨Ha, HO⟩
  unfold Left
  icases HY with ⟨H1, Ho, Hbar⟩
  ihave Hb2 := (show iprop(scopedBufs (c.tc : Thread nD τ) ∗ scopedSems0 (c.tc : Thread nD τ) ∗ opIdle (c.tc : Thread nD τ))
      ⊢ (boundary (c.tc : Thread nD τ) : sProp 𝕄) from BI.Entails.refl _) $$ [Hsc2 Hss2 Hidl]
  · isplitl [Hsc2]; · iexact Hsc2
    isplitl [Hss2]; · iexact Hss2
    iexact Hidl
  iapply (wp_host m c (fun _ => post (liftTc (After m) BI.emp) (c.tc : Thread nD τ))) $$ [Hb2 Ho H2]
  · isplitl [Hb2]; · iexact Hb2
    isplitl [Ho] <;> iassumption
  unfold boundary
  iintro ⟨⟨-, Hss, -⟩, -, H2⟩
  imodintro
  unfold post; simp only [liftTc_tc]
  unfold After
  isplitr [HO]
  · isplitl [Ha]; · iexact Ha
    isplitl [H1]; · iexact H1
    isplitl [H2]; · iexact H2
    isplitl [Hbar] <;> iassumption
  · iexact HO

/-! ## The launch -/

/-- The levels can be set once for all devices. -/
theorem lev_all : (bigSep Finset.univ fun c : Dev nD => levels0 (Ix := Unit) (Val := Elt F) (Name := ℕ) (U := UU) (Lvl := ℕ) (τ := τ) (sig := sig) c)
    ⊢ (|==> levAts L lv : sProp 𝕄) := by
  refine (bigSep_mono fun c _ => lev_assign_cells (c.tc : Thread nD τ) L lv).trans <| (BI.bigSep_bupd _ _).trans <| BI.bupd_mono ?_
  have h1 : ∀ (d : Dev nD) (p : Proc τ), p ≠ .tc → (coreLevAts ((d, p) : Thread nD τ) L lv : sProp 𝕄) = BI.emp := fun d p hp => by
    unfold coreLevAts
    rw [bigSep_congr (Ψ := fun _ : SemLoc sig => (BI.emp : sProp 𝕄)) fun sm _ => by rw [L_of_ne (((d, p) : Thread nD τ), sm) hp, BI.bigSep_empty], BI.bigSep_emp_const]
  have hsc : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => h1 d p (Finset.ne_of_mem_erase hp)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hsc, bigSep_sep']
  have h2 : ∀ P Q : sProp 𝕄, iprop(P ∗ Q) ⊢ iprop(Q ∗ emp) := fun P Q => by
    iintro ⟨-, H⟩
    isplitl [H]; · iexact H
    iempintro
  exact h2 _ _

/-- What a device keeps of its launch. -/
def Kept (c : Dev nD) : sProp 𝕄 :=
  iprop(scopedBufs (c.tc : Thread nD τ) ∗ Pipeline.cellsSems0 cfgs 0 c ∗ idleR c ∗ opIdle (c.tc : Thread nD τ) ∗ unscopedBufs c (V m c)
    ∗ owes (c.tc : Thread nD τ) (O₀ c) ∅ ∗ Pipeline.launchCred O₀ c)

/-- What a device is launched with, in the order the launch uses it. -/
def Given (c : Dev nD) : sProp 𝕄 :=
  iprop(Kept m c ∗ levels0 c ∗ Pipeline.ownSems0 osem c ∗ unscopedSems0 c)

/-- What a device is launched with, in the order in which it is used. -/
theorem given (c : Dev nD) : coreInit (Ix := Unit) (Name := ℕ) (U := UU) (Lvl := ℕ) (Pipeline.owing O₀) 0 (s₀ m ρ) (c.tc : Thread nD τ) ⊢ Given m c :=
  (Pipeline.coreInit_boundary_owing O₀ m ρ c).trans (by
    unfold boundary Given Kept
    rw [sems_eq c]
    iintro ⟨⟨Hsc, ⟨⟨Hcells, Hos⟩, Hidle⟩, Hidl⟩, Hub, Hus, HL, Hlv, -, Hcr⟩
    isplitr [Hlv Hos Hus]
    · isplitl [Hsc]; · iexact Hsc
      isplitl [Hcells]; · iexact Hcells
      isplitl [Hidle]; · iexact Hidle
      isplitl [Hidl]; · iexact Hidl
      isplitl [Hub]; · iexact Hub
      isplitl [HL] <;> iassumption
    · isplitl [Hlv]; · iexact Hlv
      isplitl [Hos] <;> iassumption)

/-- The initial bookkeeping is that of the windows and that of the exchange. -/
theorem ghosts : (ownU u₀ : sProp 𝕄) ⊢ iprop(BI.own (EP (F := F) (initOf (Pipeline.cells cfgs cellOf_inj) (Pipeline.launchToks cfgs cellOf_inj))) ∗ BI.own (ER (F := F) (initOf xcells xtoks))) := by
  unfold u₀
  iintro H
  ihave H := (ownU_pair _ _) $$ H
  icases H with ⟨H1, H2⟩
  ihave H2 := (own_pair_emb embR _ _) $$ H2
  icases H2 with ⟨H2, -⟩
  isplitl [H1]; · iexact H1
  iexact H2

/-- What all devices are launched with, sorted by kind. -/
theorem given_all : (bigSep Finset.univ (Given m))
    = iprop((bigSep Finset.univ (Kept m)) ∗ (bigSep Finset.univ fun c : Dev nD => levels0 c)
      ∗ (bigSep Finset.univ fun c : Dev nD => Pipeline.ownSems0 osem c) ∗ bigSep Finset.univ fun c : Dev nD => unscopedSems0 c) := by
  unfold Given
  rw [bigSep_sep', bigSep_sep', bigSep_sep']

/-- The shares of one device make up what it holds before the program. -/
theorem before_of (c : Dev nD) : iprop(Kept m c ∗ levAts L lv ∗ Pipeline.cellsGhost cfgs EP 0 c ∗ Pipeline.toksInit cfgs EP 0 c ∗ Gd m c) ⊢ Before m c := by
  unfold Before Kept
  iintro ⟨⟨H1, H2, H3, H4, H5, H6, H7⟩, H8, H9, H10, H11⟩
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H7]; · iexact H7
  isplitl [H9]; · iexact H9
  isplitl [H10] <;> iassumption

/-- The shares of all devices make up what they hold before the program. -/
theorem before_all : iprop((bigSep Finset.univ (Kept m)) ∗ (bigSep Finset.univ fun _ : Dev nD => levAts L lv) ∗ (bigSep Finset.univ fun c : Dev nD => Pipeline.cellsGhost cfgs EP 0 c)
        ∗ (bigSep Finset.univ fun c : Dev nD => Pipeline.toksInit cfgs EP 0 c) ∗ (bigSep Finset.univ (Gd m)))
      ⊢ bigSep Finset.univ (Before m) := by
  rw [← bigSep_sep', ← bigSep_sep', ← bigSep_sep', ← bigSep_sep']
  exact bigSep_mono fun c _ => before_of m c

/-- All devices' counters and bookkeeping are put under the invariants and dealt out. -/
theorem glob' : iprop((bigSep Finset.univ fun c : Dev nD => Pipeline.ownSems0 osem c) ∗ (bigSep Finset.univ fun c : Dev nD => unscopedSems0 c) ∗ bigSep Finset.univ (Gs m))
    ⊢ |={Set.univ}=> bigSep Finset.univ (Gd m) := by
  have h := glob m
  rw [bigSep_sep', bigSep_sep'] at h
  exact h

/-- Of a family over the one kernel its member is left. -/
theorem pick (Φ : Fin 1 → Dev nD → sProp 𝕄) : (bigSep Finset.univ fun c : Dev nD => bigSep Finset.univ fun p' => Φ p' c) ⊢ bigSep Finset.univ fun c : Dev nD => Φ 0 c :=
  bigSep_mono fun c _ => BI.bigSep_elim (Finset.mem_univ 0)

/-- The windows' bookkeeping is dealt out to the devices. -/
theorem deal_ghost : BI.own (EP (F := F) (initOf (Pipeline.cells cfgs cellOf_inj) (Pipeline.launchToks cfgs cellOf_inj)))
    ⊢ (|==> ((bigSep Finset.univ fun c : Dev nD => Pipeline.cellsGhost cfgs (EP (F := F)) 0 c) ∗ (bigSep Finset.univ fun c : Dev nD => Pipeline.toksInit cfgs (EP (F := F)) 0 c)) : sProp 𝕄) :=
  (Pipeline.fund_ghost cfgs (EP (F := F)) cellOf_inj).trans (BI.bupd_mono
    (BI.sep_mono (pick fun p' c => Pipeline.cellsGhost cfgs (EP (F := F)) p' c) (pick fun p' c => Pipeline.toksInit cfgs (EP (F := F)) p' c)))

/-- A fact that lasts is known to every device. -/
theorem each (P : sProp 𝕄) [BI.Persistent P] : P ⊢ bigSep Finset.univ fun _ : Dev nD => P :=
  BI.bigSep_intro_persistent (S := Finset.univ) fun (c : Dev nD) _ => BI.Entails.refl P

/-- What all devices are launched with makes up what they hold before the program. -/
theorem launch_of : iprop(bigSep Finset.univ (Given m) ∗ ownU u₀) ⊢ |={Set.univ}=> bigSep Finset.univ (Before m) := by
  rw [given_all]
  iintro ⟨⟨Hb, Hlv, Hs, Hs'⟩, Hu⟩
  ihave Hu := ghosts $$ Hu
  icases Hu with ⟨HP, HX⟩
  imod lev_all $$ Hlv with Hla
  imod (fund_x m) $$ HX with HG
  imod deal_ghost $$ HP with ⟨Hg, Ht⟩
  imod (glob' m) $$ [Hs Hs' HG] with HG'
  · isplitl [Hs]; · iexact Hs
    isplitl [Hs'] <;> iassumption
  imodintro
  iapply (before_all m)
  isplitl [Hb]; · iexact Hb
  isplitl [Hla]; · iapply (each (levAts L lv : sProp 𝕄)); iexact Hla
  isplitl [Hg]; · iexact Hg
  isplitl [Ht] <;> iassumption

/-- The launch hands every device what it holds before the program. -/
theorem launch : iprop(bigSep Finset.univ (fun d : Dev nD => coreInit (Ix := Unit) (Name := ℕ) (U := UU) (Lvl := ℕ) (Pipeline.owing O₀) 0 (s₀ m ρ) (d.tc : Thread nD τ)) ∗ ownU u₀)
    ⊢ |={Set.univ}=> bigSep Finset.univ (Before m) :=
  (BI.sep_mono (bigSep_mono fun c _ => given m ρ c) (BI.Entails.refl _)).trans (launch_of m)

/-! ## The final state -/

/-- What a device's memory holds at the end. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v2) = (outF m c : Buf (Elt F) ((c : Thread nD τ).loc main_v2)))

/-- What a device holds after the program is read off its memory: the contents claimed, and all counters at zero. -/
theorem read_after (c : Dev nD) (s' : Phys nD τ sig (Elt F)) : iprop(After m c ∗ SI s')
    ⊢ |={Set.univ}=> iprop(⌜Ends m c s'.mem ∧ (∀ sm : SemLoc sig, sm.isScoped .tc = true → s'.mem.sem ((c.tc : Thread nD τ), sm) = 0)
        ∧ ∀ sm : SemLoc sig, sm.isScoped .tc = false → s'.mem.sem ((c.tc : Thread nD τ), sm) = 0⌝ ∗ SI s') := by
  unfold After arrs
  iintro ⟨⟨Ha, H1, H2, Hb, Hss⟩, HSI⟩
  ihave %hz := (tcScoped_read_pers c s') $$ [Hss HSI]
  · isplitl [Hss] <;> iassumption
  ihave Hr := (pointsTo_read_all Finset.univ (fun w : Fin 3 => (c : Thread nD τ).loc (Pipeline.arrRef spec0 w)) (fun w => V m c (Pipeline.arrRef spec0 w)) s') $$ [Ha HSI]
  · isplitl [Ha] <;> iassumption
  icases Hr with ⟨%ha, HSI⟩
  ihave Hr := (pointsTo_read_all Finset.univ (fun _ : Unit => (c : Thread nD τ).loc main_arg1) (fun _ => win m c) s') $$ [H1 HSI]
  · rw [show (Finset.univ : Finset Unit) = {()} from rfl, bigSep_singleton]; isplitl [H1] <;> iassumption
  icases Hr with ⟨%h1, HSI⟩
  ihave Hr := (pointsTo_read_all Finset.univ (fun _ : Unit => (c : Thread nD τ).loc main_v2) (fun _ => (outF m c : Buf (Elt F) ((c : Thread nD τ).loc main_v2))) s') $$ [H2 HSI]
  · rw [show (Finset.univ : Finset Unit) = {()} from rfl, bigSep_singleton]; isplitl [H2] <;> iassumption
  icases Hr with ⟨%h2, HSI⟩
  ihave %hu := (tcUnscoped_read c s') $$ [Hb HSI]
  · isplitl [Hb]; · iapply (Entails.of_eq (bar_eq c).symm); iexact Hb
    iexact HSI
  imodintro
  isplitr
  · ipureintro
    exact ⟨⟨ha 0 (Finset.mem_univ _), h1 () (Finset.mem_univ _), ha 1 (Finset.mem_univ _), ha 2 (Finset.mem_univ _), h2 () (Finset.mem_univ _)⟩, hz, hu⟩
  · iexact HSI

/-- From any memory with zero counters every weakly fair execution of `main` on the 32 devices terminates, and in every final state each
    device's arguments are as they were, its result is `outF`, and every counter is at zero. -/
theorem run_main : θ_run defs (onTc (τ := τ) (main (F := F))) (s₀ m ρ) (fun r => (∀ c, Ends m c r.2) ∧ r.2.sem = fun _ => 0) := by
  show θ_run 𝔻 _ _ _
  refine (θ_run 𝔻 _ _).mono (Q := fun r => (∀ c : Dev nD, Ends m c r.2 ∧ (∀ sm : SemLoc sig, sm.isScoped .tc = true → r.2.sem ((c.tc : Thread nD τ), sm) = 0)
        ∧ ∀ sm : SemLoc sig, sm.isScoped .tc = false → r.2.sem ((c.tc : Thread nD τ), sm) = 0)
      ∧ ∀ g' : GSem nD τ sig, g'.1.2 ≠ .tc → r.2.sem g' = 0)
    (fun r hr => ⟨fun c => (hr.1 c).1, sem_eq_zero (sems_of_reads (fun c => (hr.1 c).2.1) hr.2) fun c => (hr.1 c).2.2⟩)
    (adequate_tpu 𝔻 _ _ _ (reflect_intro_fupd_tc_sems (Ix := Unit) (Name := ℕ) (U := UU) (Lvl := ℕ) (X := Unit) 𝕍 (Pipeline.owing O₀) 0 (noBookings fun _ => le_rfl) (Pipeline.owing_of_ne O₀) u₀
      (fun _ => Before m) (fun _ => After m) (fun _ => iprop(emp)) Set.univ ?_ (fun _ c => wp_main m c) fun _ => ?_))
  · refine (launch m ρ).trans (BI.fupd_mono ?_)
    iintro H
    iexists ()
    isplitl [H]; · iexact H
    iempintro
  · iintro ⟨H, -, Hsc⟩ %s' HSI
    ihave %hsc := (scSems_read_zero m ρ s') $$ [Hsc HSI]
    · isplitl [Hsc] <;> iassumption
    imod (posts_fupd Finset.univ (read_after m) s') $$ [H HSI] with %h
    · isplitl [H] <;> iassumption
    imodintro
    ipureintro
    exact ⟨fun c => h c (Finset.mem_univ c), hsc⟩

end Cert.K

end
-- ==== Proof.Same.lean ====
module

public import proofs.«01_k».proof.Proof.Run
public import proofs.«01_k».proof.Defs
public import proofs.«01_k».proof.Proof.Gen.Kernel

@[expose] public section

set_option maxRecDepth 60000

noncomputable section

namespace Cert.K

open Idealize.ShloMosaic Idealize.SL.Sem

/-- The two printed programs have the same body table. -/
theorem same_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => exact rfl
  | ⟨_ + 1, h⟩, _ => exact absurd h (Nat.not_lt.2 (Nat.le_add_left _ _))

/-- The same, with the pipeline's own bodies. -/
theorem same_defs : Cert.Kernel.defs (F := Bits) = Cert.KernelIdeal.defs (F := Bits) :=
  congrArg (Pipeline.defs (Cert.KernelIdeal.pcfgs (F := Bits))) same_defs₀

/-- A run of the one program is a run of the other. -/
theorem run_same (m : (ℓ : Loc Cert.KernelIdeal.nD Cert.KernelIdeal.τ Cert.KernelIdeal.sig) → Buf (Elt Bits) ℓ) (ρ : Dev Cert.KernelIdeal.nD → PrngReg)
    (Q : PUnit × MemSt Cert.KernelIdeal.nD Cert.KernelIdeal.τ Cert.KernelIdeal.sig (Elt Bits) → Prop)
    (h : θ_run (Cert.KernelIdeal.defs (F := Bits)) (onTc (τ := Cert.KernelIdeal.τ) (Cert.KernelIdeal.main (F := Bits))) ⟨m, fun _ => 0, ρ⟩ Q) :
    θ_run (Cert.Kernel.defs (F := Bits)) (onTc (τ := Cert.Kernel.τ) (Cert.Kernel.main (F := Bits))) ⟨m, fun _ => 0, ρ⟩ Q := by
  have e : θ_run (Cert.Kernel.defs (F := Bits)) (onTc (τ := Cert.KernelIdeal.τ) (Cert.KernelIdeal.main (F := Bits))) ⟨m, fun _ => 0, ρ⟩ Q
      = θ_run (Cert.KernelIdeal.defs (F := Bits)) (onTc (τ := Cert.KernelIdeal.τ) (Cert.KernelIdeal.main (F := Bits))) ⟨m, fun _ => 0, ρ⟩ Q :=
    congrArg (fun D : Defs Cert.KernelIdeal.nD Cert.KernelIdeal.τ Cert.KernelIdeal.sig (Elt Bits) _ =>
      θ_run D (onTc (τ := Cert.KernelIdeal.τ) (Cert.KernelIdeal.main (F := Bits))) ⟨m, fun _ => 0, ρ⟩ Q) same_defs
  exact e.mpr h

end Cert.K

end
-- ==== Proof.Value.lean ====
module

public import proofs.«01_k».proof.Proof.Run
public import proofs.«01_k».proof.Defs
public import proofs.«01_k».proof.Proof.Gen.ReferenceIdeal
public import Idealize.ShloMosaic.Lib.Pointwise
public import Idealize.ShloMosaic.Lib.Layout
public import Idealize.ShloMosaic.Lib.Claim

@[expose] public section

set_option maxRecDepth 60000

noncomputable section

namespace Cert.K

open Cert.KernelIdeal Cert.KernelIdeal.Gen

open Idealize.ShloMosaic
open Idealize.ShloMosaic.TcCoe
open Idealize.SL.Sem

/-! ## The products at the ideal values -/

/-- One element of a panel's product: a row of `x` times a column of the panel, scaled, cut off at zero. -/
theorem pay2_apply (a : Vec Ideal S128x4096 .fp8e5m2) (b : Vec Ideal S1x4096x256 .f32) (u v : Elt Ideal .f32) (r : Fin 128) (q : Fin 256) :
    k0_pay2 a b u v (Idealize.ShloMosaic.ix2 r q)
      = max ((∑ k : Fin 4096, (a (Idealize.ShloMosaic.ix2 r k) : EReal) * b (ix3 0 k q)) * ((u : EReal) * v)) 0 := by
  unfold k0_pay2
  pointwise

/-- The first of the four blocks of a panel's product: its columns from 0 on. -/
theorem pay3_apply (a : Vec Ideal S128x4096 .fp8e5m2) (b : Vec Ideal S1x4096x256 .f32) (u v : Elt Ideal .f32) (r : Fin 128) (j : Fin 64) :
    k0_pay3 a b u v (ix3 0 r j) = k0_pay2 a b u v (Idealize.ShloMosaic.ix2 r ⟨j.val, by omega⟩) := by
  unfold k0_pay3
  pointwise

/-- The second block: the columns from 64 on. -/
theorem pay4_apply (a : Vec Ideal S128x4096 .fp8e5m2) (b : Vec Ideal S1x4096x256 .f32) (u v : Elt Ideal .f32) (r : Fin 128) (j : Fin 64) :
    k0_pay4 a b u v (ix3 0 r j) = k0_pay2 a b u v (Idealize.ShloMosaic.ix2 r ⟨64 + j.val, by omega⟩) := by
  unfold k0_pay4
  pointwise

/-- The third block: the columns from 128 on. -/
theorem pay65_apply (a : Vec Ideal S128x4096 .fp8e5m2) (b : Vec Ideal S1x4096x256 .f32) (u v : Elt Ideal .f32) (r : Fin 128) (j : Fin 64) :
    k0_pay6 (k0_pay5 a b u v) (ix3 0 r j) = k0_pay2 a b u v (Idealize.ShloMosaic.ix2 r ⟨128 + j.val, by omega⟩) := by
  unfold k0_pay6 k0_pay5
  pointwise

/-- The fourth block: the columns from 192 on. -/
theorem pay7_apply (y : FVec Ideal S128x256 .bf16) (r : Fin 128) (j : Fin 64) :
    k0_pay7 y (ix3 0 r j) = y (Idealize.ShloMosaic.ix2 r ⟨192 + j.val, by omega⟩) := by
  unfold k0_pay7
  pointwise

variable (m : (ℓ : Loc nD τ sig) → Buf (Elt Ideal) ℓ)

/-- At the ideal values the block of `x` is only passed on. -/
theorem x8_apply (c : Dev nD) (r : Fin 128) (k : Fin 4096) :
    x8 m c (Idealize.ShloMosaic.ix2 r k) = xin m c (Idealize.ShloMosaic.ix2 r k) := by
  unfold x8 k0_pay1
  pointwise

/-- A panel's element is the weights' element 256 columns per panel further on. -/
theorem wpan_apply (c : Dev nD) (p : Fin 8) (k : Fin 4096) (q : Fin 256) :
    wpan m c p (ix3 0 k q) = win m c (Idealize.ShloMosaic.ix2 k ⟨256 * p.val + q.val, by omega⟩) := by
  have h : (Shape.reshapeEquiv (s := S1x4096x256) (s' := S4096x256) rs_slot).symm (ix3 0 k q) = Idealize.ShloMosaic.ix2 k q := by
    rw [Equiv.symm_apply_eq]
    pointwise
  unfold wpan wcol
  rw [h]
  refine congrArg (win m c) ?_
  funext e
  fin_cases e
  · exact Fin.ext (by simp [Rect.emb, Rect.unit, Idealize.ShloMosaic.ix2])
  · exact Fin.ext (by simp [Rect.emb, Rect.unit, Idealize.ShloMosaic.ix2])

/-- Slab `d` of device `s`: rows of `x` on `s` times the columns of target `d`. -/
theorem slab1_apply (s d : Dev nD) (r : Fin 128) (j : Fin 64) :
    slab1 m s d (ix3 0 r j)
      = max ((∑ k : Fin 4096, (xin m s (Idealize.ShloMosaic.ix2 r k) : EReal)
          * win m s (Idealize.ShloMosaic.ix2 k ⟨64 * d.val + j.val, by have : d.val < 32 := d.isLt; omega⟩))
          * ((sxin m s i0 : EReal) * swin m s i0)) 0 := by
  have hd : d.val < 32 := d.isLt
  have e (q : Fin 256) (hq : 256 * (dpan d).val + q.val = 64 * d.val + j.val) :
      k0_pay2 (x8 m s) (wpan m s (dpan d)) (sxin m s i0) (swin m s i0) (Idealize.ShloMosaic.ix2 r q)
      = max ((∑ k : Fin 4096, (xin m s (Idealize.ShloMosaic.ix2 r k) : EReal)
          * win m s (Idealize.ShloMosaic.ix2 k ⟨64 * d.val + j.val, by omega⟩))
          * ((sxin m s i0 : EReal) * swin m s i0)) 0 := by
    rw [pay2_apply]
    refine congrArg (fun z : EReal => max (z * _) 0) (Finset.sum_congr rfl fun k _ => ?_)
    rw [x8_apply, wpan_apply]
    simp only [hq]
  have hp : (dpan d).val = d.val / 4 := rfl
  unfold slab1
  split
  · rw [pay3_apply]; exact e _ (by simp only; omega)
  split
  · rw [pay4_apply]; exact e _ (by simp only; omega)
  split
  · rw [pay65_apply]; exact e _ (by simp only; omega)
  · rw [pay7_apply]; exact e _ (by simp only; omega)

/-- The result on device `c`: row `a` comes from the device holding that row. -/
theorem outF_apply (c : Dev nD) (a : Fin 4096) (j : Fin 64) (s : Dev nD) (hs : s.val = a.val / 128) :
    outF m c (Idealize.ShloMosaic.ix2 a j)
      = max ((∑ k : Fin 4096, (xin m s (Idealize.ShloMosaic.ix2 ⟨a.val % 128, by omega⟩ k) : EReal)
          * win m s (Idealize.ShloMosaic.ix2 k ⟨64 * c.val + j.val, by have : c.val < 32 := c.isLt; omega⟩))
          * ((sxin m s i0 : EReal) * swin m s i0)) 0 := by
  rw [← slab1_apply]
  show slab1 m _ c (Shape.reshapeEquiv (s := S1x128x64) (s' := S128x64) rs_slab _) = _
  have h1 : (⟨a.val / 128, by omega⟩ : Dev nD) = s := Fin.ext hs.symm
  have h2 (r : Fin 128) : Shape.reshapeEquiv (s := S1x128x64) (s' := S128x64) rs_slab (Idealize.ShloMosaic.ix2 r j) = ix3 0 r j := by
    pointwise
  have h3 (r : Fin 128) : (ix2 r j : S128x64.Idx) = Idealize.ShloMosaic.ix2 r j := by
    funext e
    fin_cases e <;> rfl
  refine Eq.trans (congrArg₂ (slab1 m · c ·) h1 (congrArg _ (h3 _))) ?_
  rw [h2]
  rfl

/-! ## The reference -/

/-- The reference's result, composed. -/
def refv (x : Vec Ideal ReferenceIdeal.S4096x4096 .f32) (w : Vec Ideal S4096x2048 .f32) (u v : Vec Ideal S1 .f32) : Vec Ideal S4096x2048 .f32 := fun i =>
  max ((∑ k : Fin 4096, (x (Idealize.ShloMosaic.ix2 (i 0) k) : EReal) * w (Idealize.ShloMosaic.ix2 k (i 1))) * ((u i0 : EReal) * v i0)) 0

/-- The scales have one element. -/
theorem i0_eq : (ix1 0 : S1.Idx) = i0 := by
  funext e
  fin_cases e
  rfl

/-- The operations of the reference at an index. -/
theorem ref_apply (x : Vec Ideal ReferenceIdeal.S4096x4096 .f32) (w : Vec Ideal S4096x2048 .f32) (u v : Vec Ideal S1 .f32) :
    maximumf (F := Ideal) (φ := .f32)
      (mulf (Host.dotGeneral (F := Ideal) (φ₁ := .f32) (φ₂ := .f32) ReferenceIdeal.dot_S4096x4096_S4096x2048_S4096x2048_1_0_0_1_n_n none x w)
        (broadcastInDim ReferenceIdeal.S4096x2048 ![0, 1] ReferenceIdeal.Facts₀.bcast_S1x1_S4096x2048_0_1
          (broadcastInDim ReferenceIdeal.S1x1 ![1] ReferenceIdeal.Facts₀.bcast_S1_S1x1_1 (mulf u v))))
      (broadcastInDim ReferenceIdeal.S4096x2048 ![] ReferenceIdeal.Facts₀.bcast_S_S4096x2048 (constant ReferenceIdeal.S_ .f32 0#32)) = refv x w u v := by
  funext i
  obtain ⟨a, j, rfl⟩ : ∃ (a : Fin 4096) (j : Fin 2048), i = Idealize.ShloMosaic.ix2 a j := ⟨i 0, i 1, Idealize.ShloMosaic.eq_ix2 i⟩
  unfold refv
  rw [← i0_eq]
  pointwise

/-- The reference program leaves its arguments alone and ends with no semaphore raised. -/
theorem frame_reference : Cert.quiescent_ReferenceIdeal := by
  intro m g _
  hlo_run
  · exact fun _ => ⟨trivial, trivial, trivial, trivial⟩
  · exact sem_eq_zero_of_no_sems rfl _

/-- The reference program ends with `refv` of its arguments and leaves them alone. -/
theorem run_reference (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      r.2.mem (((0 : Dev ReferenceIdeal.nD).tc : Thread ReferenceIdeal.nD ReferenceIdeal.τ).loc ReferenceIdeal.main_v6)
        = refv (m (((0 : Dev ReferenceIdeal.nD).tc : Thread ReferenceIdeal.nD ReferenceIdeal.τ).loc ReferenceIdeal.main_arg0)) (m (((0 : Dev ReferenceIdeal.nD).tc : Thread ReferenceIdeal.nD ReferenceIdeal.τ).loc ReferenceIdeal.main_arg1)) (m (((0 : Dev ReferenceIdeal.nD).tc : Thread ReferenceIdeal.nD ReferenceIdeal.τ).loc ReferenceIdeal.main_arg2)) (m (((0 : Dev ReferenceIdeal.nD).tc : Thread ReferenceIdeal.nD ReferenceIdeal.τ).loc ReferenceIdeal.main_arg3))
      ∧ r.2.mem (((0 : Dev ReferenceIdeal.nD).tc : Thread ReferenceIdeal.nD ReferenceIdeal.τ).loc ReferenceIdeal.main_arg0) = m (((0 : Dev ReferenceIdeal.nD).tc : Thread ReferenceIdeal.nD ReferenceIdeal.τ).loc ReferenceIdeal.main_arg0)
      ∧ r.2.mem (((0 : Dev ReferenceIdeal.nD).tc : Thread ReferenceIdeal.nD ReferenceIdeal.τ).loc ReferenceIdeal.main_arg1) = m (((0 : Dev ReferenceIdeal.nD).tc : Thread ReferenceIdeal.nD ReferenceIdeal.τ).loc ReferenceIdeal.main_arg1)
      ∧ r.2.mem (((0 : Dev ReferenceIdeal.nD).tc : Thread ReferenceIdeal.nD ReferenceIdeal.τ).loc ReferenceIdeal.main_arg2) = m (((0 : Dev ReferenceIdeal.nD).tc : Thread ReferenceIdeal.nD ReferenceIdeal.τ).loc ReferenceIdeal.main_arg2)
      ∧ r.2.mem (((0 : Dev ReferenceIdeal.nD).tc : Thread ReferenceIdeal.nD ReferenceIdeal.τ).loc ReferenceIdeal.main_arg3) = m (((0 : Dev ReferenceIdeal.nD).tc : Thread ReferenceIdeal.nD ReferenceIdeal.τ).loc ReferenceIdeal.main_arg3)) := by
  hlo_run
  exact ref_apply _ _ _ _

/-! ## The two results -/

/-- Device `c`'s result is its block of columns of the reference's, when the rows of `x` are dealt to the devices and
    the other arguments are on each of them. -/
theorem value (x : Vec Ideal ReferenceIdeal.S4096x4096 .f32) (w : Vec Ideal S4096x2048 .f32) (u v : Vec Ideal S1 .f32)
    (hx : ∀ c : Dev nD, xin m c = Layout.block ⟨2, ![128, 4096]⟩ ⟨2, ![4096, 4096]⟩ 0 32 c x)
    (hw : ∀ c, win m c = w) (hu : ∀ c, sxin m c = u) (hv : ∀ c, swin m c = v) (c : Dev nD) :
    outF m c = Layout.block ⟨2, ![4096, 64]⟩ ⟨2, ![4096, 2048]⟩ 1 32 c (refv x w u v) := by
  have hc : c.val < 32 := c.isLt
  funext i
  obtain ⟨a, j, rfl⟩ : ∃ (a : Fin 4096) (j : Fin 64), i = Idealize.ShloMosaic.ix2 a j := ⟨i 0, i 1, Idealize.ShloMosaic.eq_ix2 i⟩
  rw [outF_apply m c a j ⟨a.val / 128, by show _ < 32; omega⟩ rfl, Layout.block_apply]
  unfold refv
  rw [hw, hu, hv]
  refine congrArg (fun z : EReal => max (z * _) 0) (Finset.sum_congr rfl fun k _ => congrArg₂ (· * ·) ?_ ?_)
  · rw [hx, Layout.block_apply]
    refine congrArg x ?_
    funext e
    fin_cases e
    · refine Fin.ext ?_
      show (a.val / 128) * 128 + a.val % 128 = a.val
      omega
    · rfl
  · refine congrArg w ?_
    funext e
    fin_cases e
    · rfl
    · refine Fin.ext ?_
      show 64 * c.val + j.val = c.val * 64 + j.val
      omega

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every run of the kernel on the device's own floats ends with its arguments unchanged and no semaphore raised. -/
theorem frame_kernel : Cert.quiescent_Kernel := fun m ρ _ =>
  Cert.K.run_same m ρ _ ((θ_run Cert.KernelIdeal.defs _ _).mono
    (fun _ h => ⟨fun c => ⟨(h.1 c).1, (h.1 c).2.1, (h.1 c).2.2.1, (h.1 c).2.2.2.1⟩, h.2⟩)
    (Cert.K.run_main (F := Bits) m ρ))

/-- The same of the kernel at the ideal values. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.K.run_main (F := Ideal) m ρ)

/-- At the ideal values each device ends with its block of columns of the reference's result. -/
theorem value : Cert.algebraic_KernelIdeal_ReferenceIdeal := by
  intro m g m' g' _ h
  refine ⟨_, ?_, Cert.K.run_reference m' g'⟩
  refine (θ_run Cert.KernelIdeal.defs _ _).mono (fun r e c => ⟨?_, (e.1 c).1, (e.1 c).2.1, (e.1 c).2.2.1, (e.1 c).2.2.2.1⟩)
    (Cert.K.run_main (F := Ideal) m g)
  exact (e.1 c).2.2.2.2.trans (Cert.K.value m _ _ _ _ (fun c => (h c).1) (fun c => (h c).2.1) (fun c => (h c).2.2.1) (fun c => (h c).2.2.2) c)

theorem claim : Cert.Claim := ⟨Cert.Kernel.Gen.facts, Cert.KernelIdeal.Gen.facts, Cert.ReferenceIdeal.Gen.facts,
  frame_kernel, frame_ideal, Cert.K.frame_reference, trivial, value⟩

end Cert.Proof

end
